-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S256x8192 : Shape := ⟨2, ![256, 8192]⟩
abbrev S16x256x256 : Shape := ⟨3, ![16, 256, 256]⟩
abbrev S16x8x128 : Shape := ⟨3, ![16, 8, 128]⟩
abbrev S16 : Shape := ⟨1, ![16]⟩
abbrev S_ : Shape := ⟨0, ![]⟩
abbrev S1 : Shape := ⟨1, ![1]⟩
abbrev S1x256x256 : Shape := ⟨3, ![1, 256, 256]⟩
abbrev S256x256 : Shape := ⟨2, ![256, 256]⟩
abbrev S1x256x8192 : Shape := ⟨3, ![1, 256, 8192]⟩
abbrev S1x1x1 : Shape := ⟨3, ![1, 1, 1]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S4096x8192, .bf16⟩
  | .hbm, ⟨2, _⟩ => ⟨S256x8192, .f32⟩
  | .local _ .vmem, ⟨0, _⟩ => ⟨S4096x256, .bf16⟩
  | .local _ .vmem, ⟨1, _⟩ => ⟨S4096x8192, .bf16⟩
  | .local _ .vmem, ⟨2, _⟩ => ⟨S256x8192, .f32⟩
  | .local _ .vmem, ⟨3, _⟩ => ⟨S16x256x256, .bf16⟩
  | .local _ .vmem, ⟨4, _⟩ => ⟨S16x8x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_61 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c1_i32_61
  let c16_i32_62 : BitVec 32 := 16#32
  let v65 : BitVec 32 := Scalar.remsi v64 c16_i32_62
  let c256_i32 : BitVec 32 := 256#32
  let v66 : BitVec 32 := Scalar.muli v65 c256_i32
  let c0_i32_70 : BitVec 32 := 0#32
  ![v66.toNat, 0]
def k0_dev16 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c1_i32_66 : BitVec 32 := 1#32
  let v67 : BitVec 32 := Scalar.muli v65 c1_i32_66
  let v68 : BitVec 32 := Scalar.addi c0_i32_67 v67
  v68.toNat
def k0_dev17 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_71 : BitVec 32 := 2#32
  let v76 : BitVec 32 := Scalar.addi v2 c2_i32_71
  let c16_i32_72 : BitVec 32 := 16#32
  let v77 : BitVec 32 := Scalar.remsi v76 c16_i32_72
  let c1_i32_77 : BitVec 32 := 1#32
  let v79 : BitVec 32 := Scalar.muli v77 c1_i32_77
  let v80 : BitVec 32 := Scalar.addi c0_i32_78 v79
  v80.toNat
def k0_dev18 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_82 : BitVec 32 := 3#32
  let v88 : BitVec 32 := Scalar.addi v2 c3_i32_82
  let c16_i32_83 : BitVec 32 := 16#32
  let v89 : BitVec 32 := Scalar.remsi v88 c16_i32_83
  let c1_i32_88 : BitVec 32 := 1#32
  let v91 : BitVec 32 := Scalar.muli v89 c1_i32_88
  let v92 : BitVec 32 := Scalar.addi c0_i32_89 v91
  v92.toNat
def k0_dev19 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_93 : BitVec 32 := 4#32
  let v100 : BitVec 32 := Scalar.addi v2 c4_i32_93
  let c16_i32_94 : BitVec 32 := 16#32
  let v101 : BitVec 32 := Scalar.remsi v100 c16_i32_94
  let c1_i32_99 : BitVec 32 := 1#32
  let v103 : BitVec 32 := Scalar.muli v101 c1_i32_99
  let v104 : BitVec 32 := Scalar.addi c0_i32_100 v103
  v104.toNat
def k0_dev20 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_104 : BitVec 32 := 5#32
  let v112 : BitVec 32 := Scalar.addi v2 c5_i32_104
  let c16_i32_105 : BitVec 32 := 16#32
  let v113 : BitVec 32 := Scalar.remsi v112 c16_i32_105
  let c1_i32_110 : BitVec 32 := 1#32
  let v115 : BitVec 32 := Scalar.muli v113 c1_i32_110
  let v116 : BitVec 32 := Scalar.addi c0_i32_111 v115
  v116.toNat
def k0_dev21 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_115 : BitVec 32 := 6#32
  let v124 : BitVec 32 := Scalar.addi v2 c6_i32_115
  let c16_i32_116 : BitVec 32 := 16#32
  let v125 : BitVec 32 := Scalar.remsi v124 c16_i32_116
  let c1_i32_121 : BitVec 32 := 1#32
  let v127 : BitVec 32 := Scalar.muli v125 c1_i32_121
  let v128 : BitVec 32 := Scalar.addi c0_i32_122 v127
  v128.toNat
def k0_dev22 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_126 : BitVec 32 := 7#32
  let v136 : BitVec 32 := Scalar.addi v2 c7_i32_126
  let c16_i32_127 : BitVec 32 := 16#32
  let v137 : BitVec 32 := Scalar.remsi v136 c16_i32_127
  let c1_i32_132 : BitVec 32 := 1#32
  let v139 : BitVec 32 := Scalar.muli v137 c1_i32_132
  let v140 : BitVec 32 := Scalar.addi c0_i32_133 v139
  v140.toNat
def k0_dev23 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_137 : BitVec 32 := 8#32
  let v148 : BitVec 32 := Scalar.addi v2 c8_i32_137
  let c16_i32_138 : BitVec 32 := 16#32
  let v149 : BitVec 32 := Scalar.remsi v148 c16_i32_138
  let c1_i32_143 : BitVec 32 := 1#32
  let v151 : BitVec 32 := Scalar.muli v149 c1_i32_143
  let v152 : BitVec 32 := Scalar.addi c0_i32_144 v151
  v152.toNat
def k0_dev24 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_148 : BitVec 32 := 9#32
  let v160 : BitVec 32 := Scalar.addi v2 c9_i32_148
  let c16_i32_149 : BitVec 32 := 16#32
  let v161 : BitVec 32 := Scalar.remsi v160 c16_i32_149
  let c1_i32_154 : BitVec 32 := 1#32
  let v163 : BitVec 32 := Scalar.muli v161 c1_i32_154
  let v164 : BitVec 32 := Scalar.addi c0_i32_155 v163
  v164.toNat
def k0_dev25 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_159 : BitVec 32 := 10#32
  let v172 : BitVec 32 := Scalar.addi v2 c10_i32_159
  let c16_i32_160 : BitVec 32 := 16#32
  let v173 : BitVec 32 := Scalar.remsi v172 c16_i32_160
  let c1_i32_165 : BitVec 32 := 1#32
  let v175 : BitVec 32 := Scalar.muli v173 c1_i32_165
  let v176 : BitVec 32 := Scalar.addi c0_i32_166 v175
  v176.toNat
def k0_dev26 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_170 : BitVec 32 := 11#32
  let v184 : BitVec 32 := Scalar.addi v2 c11_i32_170
  let c16_i32_171 : BitVec 32 := 16#32
  let v185 : BitVec 32 := Scalar.remsi v184 c16_i32_171
  let c1_i32_176 : BitVec 32 := 1#32
  let v187 : BitVec 32 := Scalar.muli v185 c1_i32_176
  let v188 : BitVec 32 := Scalar.addi c0_i32_177 v187
  v188.toNat
def k0_dev27 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_181 : BitVec 32 := 12#32
  let v196 : BitVec 32 := Scalar.addi v2 c12_i32_181
  let c16_i32_182 : BitVec 32 := 16#32
  let v197 : BitVec 32 := Scalar.remsi v196 c16_i32_182
  let c1_i32_187 : BitVec 32 := 1#32
  let v199 : BitVec 32 := Scalar.muli v197 c1_i32_187
  let v200 : BitVec 32 := Scalar.addi c0_i32_188 v199
  v200.toNat
def k0_dev28 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_192 : BitVec 32 := 13#32
  let v208 : BitVec 32 := Scalar.addi v2 c13_i32_192
  let c16_i32_193 : BitVec 32 := 16#32
  let v209 : BitVec 32 := Scalar.remsi v208 c16_i32_193
  let c1_i32_198 : BitVec 32 := 1#32
  let v211 : BitVec 32 := Scalar.muli v209 c1_i32_198
  let v212 : BitVec 32 := Scalar.addi c0_i32_199 v211
  v212.toNat
def k0_dev29 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_203 : BitVec 32 := 14#32
  let v220 : BitVec 32 := Scalar.addi v2 c14_i32_203
  let c16_i32_204 : BitVec 32 := 16#32
  let v221 : BitVec 32 := Scalar.remsi v220 c16_i32_204
  let c1_i32_209 : BitVec 32 := 1#32
  let v223 : BitVec 32 := Scalar.muli v221 c1_i32_209
  let v224 : BitVec 32 := Scalar.addi c0_i32_210 v223
  v224.toNat
def k0_dev30 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_214 : BitVec 32 := 15#32
  let v232 : BitVec 32 := Scalar.addi v2 c15_i32_214
  let c16_i32_215 : BitVec 32 := 16#32
  let v233 : BitVec 32 := Scalar.remsi v232 c16_i32_215
  let c1_i32_220 : BitVec 32 := 1#32
  let v235 : BitVec 32 := Scalar.muli v233 c1_i32_220
  let v236 : BitVec 32 := Scalar.addi c0_i32_221 v235
  v236.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_225 : BitVec 32 := 256#32
  let v244 : BitVec 32 := Scalar.muli v2 c256_i32_225
  let v245 : Index := Scalar.indexCast v244
  let c0 : Index := 0#32
  ![v245.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_226 : BitVec 32 := 256#32
  let v248 : BitVec 32 := Scalar.muli v2 c256_i32_226
  let v249 : Index := Scalar.indexCast v248
  let c0_227 : Index := 0#32
  ![v249.toNat, 0]
def k0_off4 (d0 : Dev nD) (c1_i32_236 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v260 : BitVec 32 := Scalar.subi v2 c1_i32_236
  let c16_i32_237 : BitVec 32 := 16#32
  let v261 : BitVec 32 := Scalar.addi v260 c16_i32_237
  let c16_i32_238 : BitVec 32 := 16#32
  let v262 : BitVec 32 := Scalar.remsi v261 c16_i32_238
  let c256_i32_241 : BitVec 32 := 256#32
  let v265 : BitVec 32 := Scalar.muli v262 c256_i32_241
  let v266 : Index := Scalar.indexCast v265
  let c0_242 : Index := 0#32
  ![v266.toNat, 0]
def k0_dev31 (d0 : Dev nD) : Nat :=
  let c0_i32_480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_473 : BitVec 32 := 1#32
  let v533 : BitVec 32 := Scalar.addi v2 c1_i32_473
  let c16_i32_474 : BitVec 32 := 16#32
  let v534 : BitVec 32 := Scalar.remsi v533 c16_i32_474
  let c1_i32_479 : BitVec 32 := 1#32
  let v535 : BitVec 32 := Scalar.muli v534 c1_i32_479
  let v536 : BitVec 32 := Scalar.addi c0_i32_480 v535
  v536.toNat
def k0_dev32 (d0 : Dev nD) : Nat :=
  let c0_i32_492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_485 : BitVec 32 := 2#32
  let v545 : BitVec 32 := Scalar.addi v2 c2_i32_485
  let c16_i32_486 : BitVec 32 := 16#32
  let v546 : BitVec 32 := Scalar.remsi v545 c16_i32_486
  let c1_i32_491 : BitVec 32 := 1#32
  let v547 : BitVec 32 := Scalar.muli v546 c1_i32_491
  let v548 : BitVec 32 := Scalar.addi c0_i32_492 v547
  v548.toNat
def k0_dev33 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_497 : BitVec 32 := 3#32
  let v557 : BitVec 32 := Scalar.addi v2 c3_i32_497
  let c16_i32_498 : BitVec 32 := 16#32
  let v558 : BitVec 32 := Scalar.remsi v557 c16_i32_498
  let c1_i32_503 : BitVec 32 := 1#32
  let v559 : BitVec 32 := Scalar.muli v558 c1_i32_503
  let v560 : BitVec 32 := Scalar.addi c0_i32_504 v559
  v560.toNat
def k0_dev34 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_509 : BitVec 32 := 4#32
  let v569 : BitVec 32 := Scalar.addi v2 c4_i32_509
  let c16_i32_510 : BitVec 32 := 16#32
  let v570 : BitVec 32 := Scalar.remsi v569 c16_i32_510
  let c1_i32_515 : BitVec 32 := 1#32
  let v571 : BitVec 32 := Scalar.muli v570 c1_i32_515
  let v572 : BitVec 32 := Scalar.addi c0_i32_516 v571
  v572.toNat
def k0_dev35 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_521 : BitVec 32 := 5#32
  let v581 : BitVec 32 := Scalar.addi v2 c5_i32_521
  let c16_i32_522 : BitVec 32 := 16#32
  let v582 : BitVec 32 := Scalar.remsi v581 c16_i32_522
  let c1_i32_527 : BitVec 32 := 1#32
  let v583 : BitVec 32 := Scalar.muli v582 c1_i32_527
  let v584 : BitVec 32 := Scalar.addi c0_i32_528 v583
  v584.toNat
def k0_dev36 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_533 : BitVec 32 := 6#32
  let v593 : BitVec 32 := Scalar.addi v2 c6_i32_533
  let c16_i32_534 : BitVec 32 := 16#32
  let v594 : BitVec 32 := Scalar.remsi v593 c16_i32_534
  let c1_i32_539 : BitVec 32 := 1#32
  let v595 : BitVec 32 := Scalar.muli v594 c1_i32_539
  let v596 : BitVec 32 := Scalar.addi c0_i32_540 v595
  v596.toNat
def k0_dev37 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_545 : BitVec 32 := 7#32
  let v605 : BitVec 32 := Scalar.addi v2 c7_i32_545
  let c16_i32_546 : BitVec 32 := 16#32
  let v606 : BitVec 32 := Scalar.remsi v605 c16_i32_546
  let c1_i32_551 : BitVec 32 := 1#32
  let v607 : BitVec 32 := Scalar.muli v606 c1_i32_551
  let v608 : BitVec 32 := Scalar.addi c0_i32_552 v607
  v608.toNat
def k0_dev38 (d0 : Dev nD) : Nat :=
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_557 : BitVec 32 := 8#32
  let v617 : BitVec 32 := Scalar.addi v2 c8_i32_557
  let c16_i32_558 : BitVec 32 := 16#32
  let v618 : BitVec 32 := Scalar.remsi v617 c16_i32_558
  let c1_i32_563 : BitVec 32 := 1#32
  let v619 : BitVec 32 := Scalar.muli v618 c1_i32_563
  let v620 : BitVec 32 := Scalar.addi c0_i32_564 v619
  v620.toNat
def k0_dev39 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_569 : BitVec 32 := 9#32
  let v629 : BitVec 32 := Scalar.addi v2 c9_i32_569
  let c16_i32_570 : BitVec 32 := 16#32
  let v630 : BitVec 32 := Scalar.remsi v629 c16_i32_570
  let c1_i32_575 : BitVec 32 := 1#32
  let v631 : BitVec 32 := Scalar.muli v630 c1_i32_575
  let v632 : BitVec 32 := Scalar.addi c0_i32_576 v631
  v632.toNat
def k0_dev40 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_581 : BitVec 32 := 10#32
  let v641 : BitVec 32 := Scalar.addi v2 c10_i32_581
  let c16_i32_582 : BitVec 32 := 16#32
  let v642 : BitVec 32 := Scalar.remsi v641 c16_i32_582
  let c1_i32_587 : BitVec 32 := 1#32
  let v643 : BitVec 32 := Scalar.muli v642 c1_i32_587
  let v644 : BitVec 32 := Scalar.addi c0_i32_588 v643
  v644.toNat
def k0_dev41 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_593 : BitVec 32 := 11#32
  let v653 : BitVec 32 := Scalar.addi v2 c11_i32_593
  let c16_i32_594 : BitVec 32 := 16#32
  let v654 : BitVec 32 := Scalar.remsi v653 c16_i32_594
  let c1_i32_599 : BitVec 32 := 1#32
  let v655 : BitVec 32 := Scalar.muli v654 c1_i32_599
  let v656 : BitVec 32 := Scalar.addi c0_i32_600 v655
  v656.toNat
def k0_dev42 (d0 : Dev nD) : Nat :=
  let c0_i32_612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_605 : BitVec 32 := 12#32
  let v665 : BitVec 32 := Scalar.addi v2 c12_i32_605
  let c16_i32_606 : BitVec 32 := 16#32
  let v666 : BitVec 32 := Scalar.remsi v665 c16_i32_606
  let c1_i32_611 : BitVec 32 := 1#32
  let v667 : BitVec 32 := Scalar.muli v666 c1_i32_611
  let v668 : BitVec 32 := Scalar.addi c0_i32_612 v667
  v668.toNat
def k0_dev43 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_617 : BitVec 32 := 13#32
  let v677 : BitVec 32 := Scalar.addi v2 c13_i32_617
  let c16_i32_618 : BitVec 32 := 16#32
  let v678 : BitVec 32 := Scalar.remsi v677 c16_i32_618
  let c1_i32_623 : BitVec 32 := 1#32
  let v679 : BitVec 32 := Scalar.muli v678 c1_i32_623
  let v680 : BitVec 32 := Scalar.addi c0_i32_624 v679
  v680.toNat
def k0_dev44 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_629 : BitVec 32 := 14#32
  let v689 : BitVec 32 := Scalar.addi v2 c14_i32_629
  let c16_i32_630 : BitVec 32 := 16#32
  let v690 : BitVec 32 := Scalar.remsi v689 c16_i32_630
  let c1_i32_635 : BitVec 32 := 1#32
  let v691 : BitVec 32 := Scalar.muli v690 c1_i32_635
  let v692 : BitVec 32 := Scalar.addi c0_i32_636 v691
  v692.toNat
def k0_dev45 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_641 : BitVec 32 := 15#32
  let v701 : BitVec 32 := Scalar.addi v2 c15_i32_641
  let c16_i32_642 : BitVec 32 := 16#32
  let v702 : BitVec 32 := Scalar.remsi v701 c16_i32_642
  let c1_i32_647 : BitVec 32 := 1#32
  let v703 : BitVec 32 := Scalar.muli v702 c1_i32_647
  let v704 : BitVec 32 := Scalar.addi c0_i32_648 v703
  v704.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Places.lean ====
/-
# Where things lie: the devices, the buffers, their slots and blocks of rows, the semaphores

Sixteen devices in a ring of additions modulo 16. In every device's vector memory there are the block of columns of
`x` (16 blocks of 256 rows), the whole of `w`, the result, a buffer of 16 slots of 256 × 256 in which the blocks of
`x` land, and a buffer of 16 tiles of 8 × 128 in which the local maxima land. This module names them, says which
elements a slot, a tile or a block of rows is, and what the memrefs that the kernel forms for its copies denote.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllPairs

open Cert.KernelIdeal Cert.KernelIdeal.Gen
open Idealize.ShloMosaic
open Idealize.ShloMosaic.TcCoe

/-! ## The memrefs -/

/-- Device's block of columns of `x`, staged. -/
abbrev xM : Memref sig .tc .vmem S4096x256 .bf16 := Memref.whole cc0_stg0_0
/-- The whole of `w`, staged. -/
abbrev wM : Memref sig .tc .vmem S4096x8192 .bf16 := Memref.whole cc0_stg1_0
/-- The result's staging buffer. -/
abbrev oM : Memref sig .tc .vmem S256x8192 .f32 := Memref.whole cc0_stg2_0
/-- The sixteen landing slots of the blocks of `x`. -/
abbrev gM : Memref sig .tc .vmem S16x256x256 .bf16 := Memref.whole cc0_scratch0
/-- The sixteen tiles of the local maxima. -/
abbrev aM : Memref sig .tc .vmem S16x8x128 .f32 := Memref.whole cc0_scratch1

/-- A slot of the landing buffer as the kernel forms it: the slice at an offset, its leading axis dropped. -/
abbrev gSlot (off : Fin 3 → Nat) (h : ∀ a, off a + S1x256x256.size a ≤ S16x256x256.size a) : Memref sig .tc .vmem S256x256 .bf16 :=
  (gM.slice (Rect.unit (s := S16x256x256) off S1x256x256.size h) (fun _ => rfl)).squeeze S256x256 squeezes_S1x256x256_S256x256
/-- A tile of the maxima as the kernel forms it. -/
abbrev aSlot (off : Fin 3 → Nat) (h : ∀ a, off a + S1x8x128.size a ≤ S16x8x128.size a) : Memref sig .tc .vmem S8x128 .f32 :=
  (aM.slice (Rect.unit (s := S16x8x128) off S1x8x128.size h) (fun _ => rfl)).squeeze S8x128 squeezes_S1x8x128_S8x128
/-- 256 rows of the staged block of `x`. -/
abbrev xRows (off : Fin 2 → Nat) (h : ∀ a, off a + S256x256.size a ≤ S4096x256.size a) : Memref sig .tc .vmem S256x256 .bf16 :=
  xM.slice (Rect.unit (s := S4096x256) off S256x256.size h) (fun _ => rfl)

/-! ## The semaphores -/

/-- The barrier semaphore, the runtime's. -/
abbrev barS : Sem sig := (SemArray.scalar (sig.barrier 0 rfl) : Sems sig S_).sem
/-- The kernel's own semaphores: four arrays of sixteen, on the pool from number 3. -/
abbrev ownS (k : Fin 64) : DmaSem sig := ⟨3 + k.val, by have := k.isLt; show _ < 67; omega⟩
/-- The places of the four arrays among them: blocks of `x` sent, received, tiles sent, received. -/
abbrev xsI (d : Fin 16) : Fin 64 := ⟨d.val, by have := d.isLt; omega⟩
abbrev xrI (d : Fin 16) : Fin 64 := ⟨16 + d.val, by have := d.isLt; omega⟩
abbrev asI (d : Fin 16) : Fin 64 := ⟨32 + d.val, by have := d.isLt; omega⟩
abbrev arI (d : Fin 16) : Fin 64 := ⟨48 + d.val, by have := d.isLt; omega⟩

/-- One semaphore of an array of sixteen, as the kernel forms it: the slice at an offset, its axis dropped. -/
abbrev semAt (a : DmaSems sig S16) (off : Fin 1 → Nat) (h : ∀ i, off i + S1.size i ≤ S16.size i) : DmaSem sig :=
  ((a.slice (Rect.unit (s := S16) off S1.size h)).squeeze S_ squeezes_S1_S_).sem

/-- An index of a rectangle of stride one, placed: the offset plus the index. -/
theorem unit_emb_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

/-- The `d`-th semaphore of an array laid from `base` on is number `base + d`. -/
theorem semAt_consecutive (base : Nat) (hb : base + S16.numel ≤ 67) (d : Fin 16) (off : Fin 1 → Nat) (ho : off = ![d.val])
    (h : ∀ i, off i + S1.size i ≤ S16.size i) : (semAt (SemArray.consecutive base S16 hb) off h).val = base + d.val := by
  subst ho
  show base + (S16.rowMajor _ : Nat) = _
  congr 1
  rw [show ∀ i : S16.Idx, ((S16.rowMajor i : Fin _) : Nat) = (i 0 : Nat) from fun i => by
    show ((Shape.rowMajorPi _ i : Fin _) : Nat) = _
    rw [Shape.rowMajorPi_succ_val, Shape.rowMajorPi_zero]; simp]
  refine (unit_emb_val _ _ _ _ _).trans ?_
  have hz : ∀ x : Fin 1, (x : Nat) = 0 := fun x => by omega
  exact (congrArg (fun n => d.val + n) (hz _)).trans (Nat.add_zero _)

/-! ## The elements of a slot, of a tile, of a block of rows -/

/-- The elements of slot `e` of the landing buffer. -/
def gSet (e : Fin 16) : Finset S16x256x256.Idx := Finset.univ.filter fun i => (i 0 : Nat) = e.val
/-- The elements of tile `e` of the maxima. -/
def aSet (e : Fin 16) : Finset S16x8x128.Idx := Finset.univ.filter fun i => (i 0 : Nat) = e.val
/-- The elements of block `b` of 256 rows of the staged block of `x`. -/
def xSet (b : Fin 16) : Finset S4096x256.Idx := Finset.univ.filter fun i => (i 0 : Nat) / 256 = b.val

theorem gSlot_set (e : Fin 16) (off : Fin 3 → Nat) (ho : off = ![e.val, 0, 0]) (h : ∀ a, off a + S1x256x256.size a ≤ S16x256x256.size a) :
    (gSlot off h).view.set = gSet e := by
  subst ho
  show ((View.slice (View.whole cc0_scratch0) _).reshape _ _).set = _
  rw [View.set_reshape, View.set_slice_whole]
  ext i
  rw [Rect.mem_set_unit, gSet, Finset.mem_filter]
  have h1 : (i 1 : Nat) < 256 := (i 1).isLt
  have h2 : (i 2 : Nat) < 256 := (i 2).isLt
  constructor
  · intro H
    have := H 0
    simp at this
    exact ⟨Finset.mem_univ _, by omega⟩
  · rintro ⟨-, H⟩ a
    match a with
    | 0 => exact ⟨H.ge, by show (i 0 : Nat) < e.val + 1; omega⟩
    | 1 => exact ⟨Nat.zero_le _, by show (i 1 : Nat) < 0 + 256; omega⟩
    | 2 => exact ⟨Nat.zero_le _, by show (i 2 : Nat) < 0 + 256; omega⟩

theorem aSlot_set (e : Fin 16) (off : Fin 3 → Nat) (ho : off = ![e.val, 0, 0]) (h : ∀ a, off a + S1x8x128.size a ≤ S16x8x128.size a) :
    (aSlot off h).view.set = aSet e := by
  subst ho
  show ((View.slice (View.whole cc0_scratch1) _).reshape _ _).set = _
  rw [View.set_reshape, View.set_slice_whole]
  ext i
  rw [Rect.mem_set_unit, aSet, Finset.mem_filter]
  have h1 : (i 1 : Nat) < 8 := (i 1).isLt
  have h2 : (i 2 : Nat) < 128 := (i 2).isLt
  constructor
  · intro H
    have := H 0
    simp at this
    exact ⟨Finset.mem_univ _, by omega⟩
  · rintro ⟨-, H⟩ a
    match a with
    | 0 => exact ⟨H.ge, by show (i 0 : Nat) < e.val + 1; omega⟩
    | 1 => exact ⟨Nat.zero_le _, by show (i 1 : Nat) < 0 + 8; omega⟩
    | 2 => exact ⟨Nat.zero_le _, by show (i 2 : Nat) < 0 + 128; omega⟩

theorem xRows_set (b : Fin 16) (off : Fin 2 → Nat) (ho : off = ![256 * b.val, 0]) (h : ∀ a, off a + S256x256.size a ≤ S4096x256.size a) :
    (xRows off h).view.set = xSet b := by
  subst ho
  show (View.slice (View.whole cc0_stg0_0) _).set = _
  rw [View.set_slice_whole]
  ext i
  rw [Rect.mem_set_unit, xSet, Finset.mem_filter]
  have h1 : (i 1 : Nat) < 256 := (i 1).isLt
  constructor
  · intro H
    have := H 0
    simp at this
    exact ⟨Finset.mem_univ _, by omega⟩
  · rintro ⟨-, H⟩ a
    match a with
    | 0 => exact ⟨by show 256 * b.val ≤ (i 0 : Nat); omega, by show (i 0 : Nat) < 256 * b.val + 256; omega⟩
    | 1 => exact ⟨Nat.zero_le _, by show (i 1 : Nat) < 0 + 256; omega⟩

/-- The slots are disjoint and together the whole buffer; so are the tiles and the blocks of rows. -/
theorem gSet_disjoint : ∀ a ∈ (Finset.univ : Finset (Fin 16)), ∀ b ∈ (Finset.univ : Finset (Fin 16)), a ≠ b → Disjoint (gSet a) (gSet b) := fun a _ b _ hab =>
  Finset.disjoint_left.mpr fun i ha hb => hab (Fin.ext ((Finset.mem_filter.mp ha).2.symm.trans (Finset.mem_filter.mp hb).2))
theorem gSet_biUnion : (Finset.univ : Finset (Fin 16)).biUnion gSet = Finset.univ := by
  ext i; simp only [Finset.mem_biUnion, Finset.mem_univ, true_and, iff_true]
  exact ⟨⟨(i 0 : Nat), (i 0).isLt⟩, Finset.mem_filter.mpr ⟨Finset.mem_univ _, rfl⟩⟩
theorem aSet_disjoint : ∀ a ∈ (Finset.univ : Finset (Fin 16)), ∀ b ∈ (Finset.univ : Finset (Fin 16)), a ≠ b → Disjoint (aSet a) (aSet b) := fun a _ b _ hab =>
  Finset.disjoint_left.mpr fun i ha hb => hab (Fin.ext ((Finset.mem_filter.mp ha).2.symm.trans (Finset.mem_filter.mp hb).2))
theorem aSet_biUnion : (Finset.univ : Finset (Fin 16)).biUnion aSet = Finset.univ := by
  ext i; simp only [Finset.mem_biUnion, Finset.mem_univ, true_and, iff_true]
  exact ⟨⟨(i 0 : Nat), (i 0).isLt⟩, Finset.mem_filter.mpr ⟨Finset.mem_univ _, rfl⟩⟩
theorem xSet_disjoint : ∀ a ∈ (Finset.univ : Finset (Fin 16)), ∀ b ∈ (Finset.univ : Finset (Fin 16)), a ≠ b → Disjoint (xSet a) (xSet b) := fun a _ b _ hab =>
  Finset.disjoint_left.mpr fun i ha hb => hab (Fin.ext ((Finset.mem_filter.mp ha).2.symm.trans (Finset.mem_filter.mp hb).2))
theorem xSet_biUnion : (Finset.univ : Finset (Fin 16)).biUnion xSet = Finset.univ := by
  ext i; simp only [Finset.mem_biUnion, Finset.mem_univ, true_and, iff_true]
  exact ⟨⟨(i 0 : Nat) / 256, by have : (i 0 : Nat) < 4096 := (i 0).isLt; omega⟩, Finset.mem_filter.mpr ⟨Finset.mem_univ _, rfl⟩⟩

/-! ## Where an index of a slot, of a tile or of a block of rows lies in its buffer -/

/-- An index of the landing buffer from its coordinates. -/
def gIx (e : Fin 16) (r : Fin 256) (k : Fin 256) : S16x256x256.Idx := fun
  | 0 => ⟨e.val, e.isLt⟩ | 1 => ⟨r.val, r.isLt⟩ | 2 => ⟨k.val, k.isLt⟩
/-- An index of the maxima from its coordinates. -/
def aIx (e : Fin 16) (r : Fin 8) (k : Fin 128) : S16x8x128.Idx := fun
  | 0 => ⟨e.val, e.isLt⟩ | 1 => ⟨r.val, r.isLt⟩ | 2 => ⟨k.val, k.isLt⟩
/-- Row `r` of block `b` of rows, column `k`. -/
def xIx (b : Fin 16) (r : Fin 256) (k : Fin 256) : S4096x256.Idx := fun
  | 0 => ⟨256 * b.val + r.val, by have := b.isLt; have := r.isLt; show _ < 4096; omega⟩ | 1 => ⟨k.val, k.isLt⟩

theorem gSlot_emb (e : Fin 16) (off : Fin 3 → Nat) (ho : off = ![e.val, 0, 0]) (h : ∀ a, off a + S1x256x256.size a ≤ S16x256x256.size a)
    (j : S256x256.Idx) : (gSlot off h).view.emb j = gIx e (j 0) (j 1) := by
  subst ho
  show (Rect.unit (s := S16x256x256) ![e.val, 0, 0] S1x256x256.size h).emb (Shape.reshapeEquiv _ j) = _
  funext a
  apply Fin.ext
  rw [unit_emb_val]
  erw [Shape.reshapeEquiv_cons_one]
  fin_cases a
  · show e.val + 0 = e.val; rfl
  · show 0 + (j 0 : Nat) = _; rw [Nat.zero_add]; rfl
  · show 0 + (j 1 : Nat) = _; rw [Nat.zero_add]; rfl

theorem aSlot_emb (e : Fin 16) (off : Fin 3 → Nat) (ho : off = ![e.val, 0, 0]) (h : ∀ a, off a + S1x8x128.size a ≤ S16x8x128.size a)
    (j : S8x128.Idx) : (aSlot off h).view.emb j = aIx e (j 0) (j 1) := by
  subst ho
  show (Rect.unit (s := S16x8x128) ![e.val, 0, 0] S1x8x128.size h).emb (Shape.reshapeEquiv _ j) = _
  funext a
  apply Fin.ext
  rw [unit_emb_val]
  erw [Shape.reshapeEquiv_cons_one]
  fin_cases a
  · show e.val + 0 = e.val; rfl
  · show 0 + (j 0 : Nat) = _; rw [Nat.zero_add]; rfl
  · show 0 + (j 1 : Nat) = _; rw [Nat.zero_add]; rfl

theorem xRows_emb (b : Fin 16) (off : Fin 2 → Nat) (ho : off = ![256 * b.val, 0]) (h : ∀ a, off a + S256x256.size a ≤ S4096x256.size a)
    (j : S256x256.Idx) : (xRows off h).view.emb j = xIx b (j 0) (j 1) := by
  subst ho
  show (Rect.unit (s := S4096x256) ![256 * b.val, 0] S256x256.size h).emb j = _
  funext a
  apply Fin.ext
  rw [unit_emb_val]
  fin_cases a
  · rfl
  · show 0 + (j 1 : Nat) = _; rw [Nat.zero_add]; rfl

end Cert.AllPairs

end
-- ==== Proof.Contents.lean ====
/-
# What the buffers hold

The memory at launch is arbitrary. From it: the blocks that device `c` has staged, what each landing slot holds once the
devices have exchanged their blocks of `x`, the local product after each addition, the local maximum as a tile, what the
tiles hold once exchanged, and the result. All of it over any float values `F`.
-/
module

public import proofs.«01_k».proof.Proof.Places

@[expose] public section

noncomputable section

namespace Cert.AllPairs

open Cert.KernelIdeal Cert.KernelIdeal.Gen
open Idealize.ShloMosaic
open Idealize.ShloMosaic.TcCoe

variable {F : FTy → Type} [FloatOps F]
variable (m : (ℓ : Loc nD τ sig) → Buf (Elt F) ℓ)

/-- Device `c`'s staged block of `x`: all rows, its 256 columns. -/
def xstg (c : Dev nD) : (cc0_stg0_0 : Ref sig .tc).ty.Contents (Elt F) :=
  (win0_0.blk (0 : Fin 1)).view.read (Elt F) (m ((c : Thread nD τ).loc main_arg0))
/-- Device `c`'s staged copy of `w`. -/
def wstg (c : Dev nD) : (cc0_stg1_0 : Ref sig .tc).ty.Contents (Elt F) :=
  (win0_1.blk (0 : Fin 1)).view.read (Elt F) (m ((c : Thread nD τ).loc main_arg1))

/-- The landing buffer of device `c` after the exchange: slot `d` holds the rows of block `c` of device `c - d`'s block of `x`. -/
def landX (c : Dev nD) : (cc0_scratch0 : Ref sig .tc).ty.Contents (Elt F) := fun i =>
  xstg m (c - ⟨(i 0).val, (i 0).isLt⟩) (xIx c ⟨(i 1).val, (i 1).isLt⟩ ⟨(i 2).val, (i 2).isLt⟩)

/-! ## What the loads read -/

theorem xInb (b : Fin 16) : ∀ a, (![256 * b.val, 0] : Fin 2 → Nat) a + S256x256.size a ≤ S4096x256.size a := by
  have := b.isLt
  intro a
  match a with
  | 0 => show 256 * b.val + 256 ≤ 4096; omega
  | 1 => show 0 + 256 ≤ 256; omega
theorem wInb (b : Fin 16) : ∀ a, (![256 * b.val, 0] : Fin 2 → Nat) a + S256x8192.size a ≤ S4096x8192.size a := by
  have := b.isLt
  intro a
  match a with
  | 0 => show 256 * b.val + 256 ≤ 4096; omega
  | 1 => show 0 + 8192 ≤ 8192; omega
theorem gInb (d : Fin 16) : ∀ a, (![d.val, 0, 0] : Fin 3 → Nat) a + S1x256x256.size a ≤ S16x256x256.size a := by
  have := d.isLt
  intro a
  match a with
  | 0 => show d.val + 1 ≤ 16; omega
  | 1 => show 0 + 256 ≤ 256; omega
  | 2 => show 0 + 256 ≤ 256; omega

/-- Block `b` of rows of device `c`'s block of `x`. -/
def xBlk (c : Dev nD) (b : Fin 16) : Vec F S256x256 .bf16 :=
  xM.view.readAt (Elt F) (Rect.unit (s := S4096x256) ![256 * b.val, 0] S256x256.size (xInb b)).toLoadRect (xstg m c)
/-- Block `b` of rows of `w`. -/
def wBlk (c : Dev nD) (b : Fin 16) : Vec F S256x8192 .bf16 :=
  wM.view.readAt (Elt F) (Rect.unit (s := S4096x8192) ![256 * b.val, 0] S256x8192.size (wInb b)).toLoadRect (wstg m c)
/-- Slot `d` of the landing buffer after the exchange. -/
def gBlk (c : Dev nD) (d : Fin 16) : Vec F S1x256x256 .bf16 :=
  gM.view.readAt (Elt F) (Rect.unit (s := S16x256x256) ![d.val, 0, 0] S1x256x256.size (gInb d)).toLoadRect (landX m c)
/-- The block of rows of `w` that slot `d`'s block of `x` meets. -/
def wFor (c : Dev nD) (d : Fin 16) : Vec F S256x8192 .bf16 := wBlk m c (c - d)

/-! ## The local product, as it is accumulated -/

/-- The own block's product. -/
def acc0 (c : Dev nD) : FVec F S256x8192 .f32 := k0_pay1 (xBlk m c c) (wBlk m c c)
def acc1 (c : Dev nD) : FVec F S256x8192 .f32 := k0_pay2 (acc0 m c) (gBlk m c 1) (wFor m c 1)
def acc3 (c : Dev nD) : FVec F S256x8192 .f32 := k0_pay4 (acc1 m c) (k0_pay3 (gBlk m c 2)) (wFor m c 2) (gBlk m c 3) (wFor m c 3)
def acc5 (c : Dev nD) : FVec F S256x8192 .f32 := k0_pay5 (acc3 m c) (gBlk m c 4) (wFor m c 4) (gBlk m c 5) (wFor m c 5)
def acc6 (c : Dev nD) : FVec F S256x8192 .f32 := k0_pay6 (acc5 m c) (gBlk m c 6) (wFor m c 6)
def acc8 (c : Dev nD) : FVec F S256x8192 .f32 := k0_pay8 (acc6 m c) (k0_pay7 (gBlk m c 7)) (wFor m c 7) (gBlk m c 8) (wFor m c 8)
def acc10 (c : Dev nD) : FVec F S256x8192 .f32 := k0_pay9 (acc8 m c) (gBlk m c 9) (wFor m c 9) (gBlk m c 10) (wFor m c 10)
def acc11 (c : Dev nD) : FVec F S256x8192 .f32 := k0_pay10 (acc10 m c) (gBlk m c 11) (wFor m c 11)
def acc13 (c : Dev nD) : FVec F S256x8192 .f32 := k0_pay12 (acc11 m c) (k0_pay11 (gBlk m c 12)) (wFor m c 12) (gBlk m c 13) (wFor m c 13)
/-- The local rows of `relu (x·w)`; -/
def yAt (c : Dev nD) : FVec F S256x8192 .f32 := k0_pay13 (acc13 m c) (gBlk m c 14) (wFor m c 14) (gBlk m c 15) (wFor m c 15)
/-- their maximum, -/
def topAt (c : Dev nD) : FVec F S1 .f32 := k0_pay14 (acc13 m c) (gBlk m c 14) (wFor m c 14) (gBlk m c 15) (wFor m c 15)
/-- and the maximum spread over a tile. -/
def tileAt (c : Dev nD) : FVec F S1x8x128 .f32 := k0_pay15 (topAt m c)

/-- An index of one tile, from its coordinates. -/
def tIx (r : Fin 8) (k : Fin 128) : S1x8x128.Idx := fun
  | 0 => ⟨0, Nat.one_pos⟩ | 1 => ⟨r.val, r.isLt⟩ | 2 => ⟨k.val, k.isLt⟩

/-- The tiles of device `c` after the exchange: tile `d` is device `c - d`'s maximum (tile 0 its own). -/
def landA (c : Dev nD) : (cc0_scratch1 : Ref sig .tc).ty.Contents (Elt F) := fun i =>
  tileAt m (c - ⟨(i 0).val, (i 0).isLt⟩) (tIx ⟨(i 1).val, (i 1).isLt⟩ ⟨(i 2).val, (i 2).isLt⟩)

/-- The result on device `c`. -/
def outAt (c : Dev nD) : (cc0_stg2_0 : Ref sig .tc).ty.Contents (Elt F) := k0_pay16 (yAt m c) (landA m c)

/-! ## What a copy lands -/

theorem shift_back (c d : Fin 16) : c + d - d = c := by revert c d; decide
theorem shift_zero (c : Fin 16) : c - 0 = c := by revert c; decide

/-- A copy of rows into a slot puts the row's elements at the slot's, whatever the buffers held. -/
theorem copied_x (off : Fin 2 → Nat) (h : ∀ a, off a + S256x256.size a ≤ S4096x256.size a) (off' : Fin 3 → Nat)
    (h' : ∀ a, off' a + S1x256x256.size a ≤ S16x256x256.size a) (fd : (cc0_scratch0 : Ref sig .tc).ty.Contents (Elt F))
    (fs : (cc0_stg0_0 : Ref sig .tc).ty.Contents (Elt F)) (j : S256x256.Idx) :
    (gSlot off' h').view.write (Elt F) fd ((xRows off h).view.read (Elt F) fs) Finset.univ ((gSlot off' h').view.emb j)
      = fs ((xRows off h).view.emb j) :=
  View.write_emb_of_mem (v := (gSlot off' h').view) (Val := Elt F) fd _ (Finset.mem_univ j)

/-- A copy of a tile into a tile puts its elements there, whatever the buffers held. -/
theorem copied_a (off : Fin 3 → Nat) (h : ∀ a, off a + S1x8x128.size a ≤ S16x8x128.size a) (off' : Fin 3 → Nat)
    (h' : ∀ a, off' a + S1x8x128.size a ≤ S16x8x128.size a) (fd fs : (cc0_scratch1 : Ref sig .tc).ty.Contents (Elt F)) (j : S8x128.Idx) :
    (aSlot off' h').view.write (Elt F) fd ((aSlot off h).view.read (Elt F) fs) Finset.univ ((aSlot off' h').view.emb j)
      = fs ((aSlot off h).view.emb j) :=
  View.write_emb_of_mem (v := (aSlot off' h').view) (Val := Elt F) fd _ (Finset.mem_univ j)

theorem landX_at (p : Dev nD) (d : Fin 16) (r k : Fin 256) : landX m p (gIx d r k) = xstg m (p - d) (xIx p r k) := rfl
theorem landA_at (p : Dev nD) (d : Fin 16) (r : Fin 8) (k : Fin 128) : landA m p (aIx d r k) = tileAt m (p - d) (tIx r k) := rfl

/-- The rows that device `c` sends to device `p = c + d` land as slot `d` of device `p`'s landing buffer should be. -/
theorem landed_x (c : Dev nD) (d : Fin 16) (off : Fin 2 → Nat) (ho : off = ![256 * (c + d).val, 0])
    (h : ∀ a, off a + S256x256.size a ≤ S4096x256.size a) (off' : Fin 3 → Nat) (ho' : off' = ![d.val, 0, 0])
    (h' : ∀ a, off' a + S1x256x256.size a ≤ S16x256x256.size a) (fd : (cc0_scratch0 : Ref sig .tc).ty.Contents (Elt F)) :
    ∀ i ∈ (gSlot off' h').view.set,
      (gSlot off' h').view.write (Elt F) fd ((xRows off h).view.read (Elt F) (xstg m c)) Finset.univ i = landX m (c + d) i := by
  intro i hi
  obtain ⟨j, -, rfl⟩ := Finset.mem_map.mp hi
  refine (copied_x off h off' h' fd _ j).trans ?_
  rw [xRows_emb (c + d) off ho h, gSlot_emb d off' ho' h']
  refine Eq.trans ?_ (landX_at m (c + d) d _ _).symm
  rw [shift_back]

/-- The tile that device `c` sends to device `c + d` lands as tile `d` of that device should be. -/
theorem landed_a (c : Dev nD) (d : Fin 16) (off : Fin 3 → Nat) (ho : off = ![0, 0, 0])
    (h : ∀ a, off a + S1x8x128.size a ≤ S16x8x128.size a) (off' : Fin 3 → Nat) (ho' : off' = ![d.val, 0, 0])
    (h' : ∀ a, off' a + S1x8x128.size a ≤ S16x8x128.size a) (fd : (cc0_scratch1 : Ref sig .tc).ty.Contents (Elt F)) :
    ∀ i ∈ (aSlot off' h').view.set,
      (aSlot off' h').view.write (Elt F) fd ((aSlot off h).view.read (Elt F) (landA m c)) Finset.univ i = landA m (c + d) i := by
  intro i hi
  obtain ⟨j, -, rfl⟩ := Finset.mem_map.mp hi
  refine (copied_a off h off' h' fd _ j).trans ?_
  rw [aSlot_emb 0 off ho h, aSlot_emb d off' ho' h']
  refine (landA_at m c 0 _ _).trans (Eq.trans ?_ (landA_at m (c + d) d _ _).symm)
  rw [shift_back, shift_zero]

theorem aInb0 : ∀ a, (![0, 0, 0] : Fin 3 → Nat) a + S1x8x128.size a ≤ S16x8x128.size a := by
  intro a
  match a with
  | 0 => show 0 + 1 ≤ 16; omega
  | 1 => show 0 + 8 ≤ 8; omega
  | 2 => show 0 + 128 ≤ 128; omega

/-- Tile 0 through a load or a store. -/
abbrev tile0 (h : ∀ a, (![0, 0, 0] : Fin 3 → Nat) a + S1x8x128.size a ≤ S16x8x128.size a) : View sig .tc .vmem S1x8x128 .f32 :=
  aM.access (Rect.unit (s := S16x8x128) ![0, 0, 0] S1x8x128.size h)

theorem tile0_set (h) : (tile0 h).set = aSet 0 := by
  show (View.slice (View.whole cc0_scratch1) _).set = _
  rw [← aSlot_set 0 ![0, 0, 0] rfl h]
  exact (View.set_reshape _ _).symm

theorem tile0_emb (h) (j : S1x8x128.Idx) : (tile0 h).emb j = aIx 0 ⟨(j 1).val, (j 1).isLt⟩ ⟨(j 2).val, (j 2).isLt⟩ := by
  have h0 : (j 0 : Nat) = 0 := by have : (j 0 : Nat) < 1 := (j 0).isLt; omega
  funext a
  apply Fin.ext
  refine (unit_emb_val _ _ h j a).trans ?_
  match a with
  | 0 => show 0 + (j 0 : Nat) = 0; omega
  | 1 => exact Nat.zero_add _
  | 2 => exact Nat.zero_add _

theorem tIx_eta (j : S1x8x128.Idx) : tIx ⟨(j 1).val, (j 1).isLt⟩ ⟨(j 2).val, (j 2).isLt⟩ = j := by
  have h0 : (j 0 : Nat) = 0 := by have : (j 0 : Nat) < 1 := (j 0).isLt; omega
  funext a
  apply Fin.ext
  match a with
  | 0 => exact h0.symm
  | 1 => rfl
  | 2 => rfl

/-- A store through tile 0 puts the stored values there. -/
theorem stored_at (h) (f : (cc0_scratch1 : Ref sig .tc).ty.Contents (Elt F)) (w : FVec F S1x8x128 .f32) (j : S1x8x128.Idx) :
    (tile0 h).write (Elt F) f w Finset.univ ((tile0 h).emb j) = w j :=
  View.write_emb_of_mem (v := tile0 h) (Val := Elt F) f w (Finset.mem_univ j)

/-- The own maximum, stored, is tile 0 as it should be. -/
theorem stored_tile (c : Dev nD) (h) (f : (cc0_scratch1 : Ref sig .tc).ty.Contents (Elt F)) :
    ∀ i ∈ aSet 0, (tile0 h).write (Elt F) f (tileAt m c) Finset.univ i = landA m c i := by
  intro i hi
  rw [← tile0_set h] at hi
  obtain ⟨j, -, rfl⟩ := Finset.mem_map.mp hi
  refine (stored_at h f (tileAt m c) j).trans ?_
  rw [tile0_emb]
  refine Eq.trans ?_ (landA_at m c 0 _ _).symm
  rw [shift_zero, tIx_eta]

end Cert.AllPairs

end
-- ==== Proof.Protocol.lean ====
/-
# The protocol

Everything happens once. Device `c` signals the barrier semaphore of the fifteen others; its signal to device `c + d`
hands over the landing slot and the tile that device writes (number `-d`). After its own barrier wait it therefore holds,
for every `d`, slot `d` and tile `d` of device `c + d`, and may write them. A block of `x` sent comes back with the wait
on its send semaphore, a slot received with the wait on its receive semaphore, holding what it should; so do the tiles,
except that the fifteen sends of the own tile each lend one share of it, a last share staying with the device, which
reads the tile meanwhile.

This module states that as a schedule of duties, one round on each semaphore, with who owes what at launch and the levels
by which no wait is circular.
-/
module

public import proofs.«01_k».proof.Proof.Contents

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, and the exchange's with duties numbered by shifts -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barCell (c : Dev nD) : GSem nD τ sig := ((c : Thread nD τ), .reg barS)
abbrev ownCell (c : Dev nD) (k : Fin 64) : GSem nD τ sig := ((c : Thread nD τ), .dma (ownS k))
/-- All of a device's cells: the barrier's and the kernel's own. -/
abbrev kcell : Dev nD × Option (Fin 64) → GSem nD τ sig
  | (c, none) => barCell c
  | (c, some k) => ownCell c k

/-- Which part a semaphore plays. -/
inductive Part where
  | bar
  | own (a : Fin 4) (d : Fin 16)
  | other
  deriving DecidableEq

def part : SemLoc sig → Part
  | .reg _ => .bar
  | .dma q => if h : 3 ≤ q.val then .own ⟨(q.val - 3) / 16, by have : q.val < 67 := q.isLt; omega⟩ ⟨(q.val - 3) % 16, Nat.mod_lt _ (by decide)⟩ else .other

theorem part_xs (d : Fin 16) : part (.dma (ownS (xsI d))) = .own 0 d := by revert d; decide
theorem part_xr (d : Fin 16) : part (.dma (ownS (xrI d))) = .own 1 d := by revert d; decide
theorem part_as (d : Fin 16) : part (.dma (ownS (asI d))) = .own 2 d := by revert d; decide
theorem part_ar (d : Fin 16) : part (.dma (ownS (arI d))) = .own 3 d := by revert d; decide

/-- The credit of a block of `x`, and of a tile. -/
abbrev Nx : ℕ := (gSlot ![0, 0, 0] (gInb 0)).view.dmaCredit
abbrev Na : ℕ := (aSlot ![0, 0, 0] aInb0).view.dmaCredit
theorem Nx_pos : 0 < Nx := View.dmaCredit_pos _ (by decide)
theorem Na_pos : 0 < Na := View.dmaCredit_pos _ (by decide)

/-! ## The pieces of the buffers -/

/-- Slot `e` of device `c`'s landing buffer. -/
def gPts (c : Dev nD) (e : Fin 16) (f : Buf (Elt F) ((c : Thread nD τ).loc cc0_scratch0)) : sProp 𝕄 :=
  ((c : Thread nD τ).loc cc0_scratch0) ↦[gSet e]{fullShare} f
/-- A share of tile `e` of device `c`'s maxima. -/
def aPts (c : Dev nD) (e : Fin 16) (q : PosShare TreeShare) (f : Buf (Elt F) ((c : Thread nD τ).loc cc0_scratch1)) : sProp 𝕄 :=
  ((c : Thread nD τ).loc cc0_scratch1) ↦[aSet e]{q} f
/-- Block `b` of rows of device `c`'s staged block of `x`. -/
def xPts (c : Dev nD) (b : Fin 16) : sProp 𝕄 :=
  ((c : Thread nD τ).loc cc0_stg0_0) ↦[xSet b]{fullShare} xstg m c

omit [FloatOps F] in
instance gPts_storable (c e f) : BI.Storable (upEmb : UEmb _ 𝕄) (gPts (F := F) c e f) := by unfold gPts; infer_instance
omit [FloatOps F] in
instance aPts_storable (c e q f) : BI.Storable (upEmb : UEmb _ 𝕄) (aPts (F := F) c e q f) := by unfold aPts; infer_instance
omit [FloatOps F] in
instance xPts_storable (c b) : BI.Storable (upEmb : UEmb _ 𝕄) (xPts (F := F) m c b) := by unfold xPts; infer_instance

/-- The share of the own tile that the send of shift `d` borrows, and the share that stays. -/
abbrev lent (d : Fin 16) : PosShare TreeShare := Transfers.shareTok fullShare 16 d
abbrev kept : PosShare TreeShare := Transfers.shareDrop fullShare 16

/-- Slot `e` and tile `e` of device `p`, at any contents: what a device needs to write there. -/
def landing (p : Dev nD) (e : Fin 16) : sProp 𝕄 := iprop((∃ f, gPts p e f) ∗ ∃ f, aPts p e fullShare f)

omit [FloatOps F] in
instance landing_storable (p e) : BI.Storable (upEmb : UEmb _ 𝕄) (landing (F := F) p e) := by unfold landing; infer_instance

/-! ## The schedule -/

/-- What the completion of a copy hands over, on the `d`-th semaphore of each array. -/
def ownPay (c : Dev nD) (a : Fin 4) (d : Fin 16) : sProp 𝕄 :=
  if a = 0 then xPts m c (c + d) else if a = 1 then gPts c d (landX m c)
  else if a = 2 then aPts c 0 (lent d) (landA m c) else aPts c d fullShare (landA m c)

instance ownPay_storable (c a d) : BI.Storable (upEmb : UEmb _ 𝕄) (ownPay (F := F) m c a d) := by
  unfold ownPay; (repeat' split) <;> infer_instance

/-- The duties of a semaphore's only round: on the barrier one per shift other than 0, on the `d`-th of an array one. -/
def dutiesOf : Part → Finset (Fin 16)
  | .bar => Finset.univ.erase 0
  | .own _ d => if d = 0 then ∅ else {0}
  | .other => ∅
def amountAt : Part → ℕ
  | .bar => 1
  | .own a _ => if a = 0 ∨ a = 1 then Nx else Na
  | .other => 1
/-- Duty `d` of device `c`'s barrier is paid by device `c - d`, with the slot and the tile of number `-d`. -/
def payAt (c : Dev nD) (d : Fin 16) : Part → sProp 𝕄
  | .bar => landing (c - d) (0 - d)
  | .own a d => ownPay m c a d
  | .other => iprop(emp)

def Rd : Rounds.Schedule (GSem nD τ sig) (Fin 16) 𝕄 where
  duties g r := if r = 0 ∧ g.1.2 = .tc then dutiesOf (part g.2) else ∅
  unitless _ := False
  amount g _ _ := amountAt (part g.2)
  payload g _ d := payAt m g.1.1 d (part g.2)
  amount_pos g _ _ _ := by
    show 0 < amountAt (part g.2)
    rcases part g.2 with _ | ⟨a, d⟩ | _
    · exact Nat.one_pos
    · show 0 < if a = 0 ∨ a = 1 then Nx else Na
      split <;> [exact Nx_pos; exact Na_pos]
    · exact Nat.one_pos

instance Rd_payload_storable (g : GSem nD τ sig) (r : ℕ) (d : Fin 16) :
    BI.Storable (upEmb : UEmb _ 𝕄) ((Rd (F := F) m).payload g r d) := by
  show BI.Storable upEmb (payAt m g.1.1 d (part g.2))
  cases part g.2 <;> (unfold payAt; infer_instance)

theorem duties_later (g : GSem nD τ sig) : ∀ r, 1 ≤ r → (Rd (F := F) m).duties g r = ∅ := fun r hr => by
  dsimp only [Rd]; exact if_neg fun h => by omega

theorem duties_bar (c : Dev nD) : (Rd (F := F) m).duties (barCell c) 0 = Finset.univ.erase 0 := by
  dsimp only [Rd]; exact if_pos ⟨rfl, rfl⟩
/-- A semaphore that is the `d`-th of array `a`: its duties, its amount and what its one duty hands over. -/
theorem duties_own (c : Dev nD) (k : Fin 64) (a : Fin 4) (d : Fin 16) (hk : part (.dma (ownS k)) = .own a d) (hd : d ≠ 0) :
    (Rd (F := F) m).duties (ownCell c k) 0 = {0} := by
  dsimp only [Rd]; rw [if_pos ⟨rfl, rfl⟩, hk]; exact if_neg hd
theorem duties_own_zero (c : Dev nD) (k : Fin 64) (a : Fin 4) (hk : part (.dma (ownS k)) = .own a 0) :
    (Rd (F := F) m).duties (ownCell c k) 0 = ∅ := by
  dsimp only [Rd]; rw [if_pos ⟨rfl, rfl⟩, hk]; rfl
theorem amount_bar (c : Dev nD) (d : Fin 16) : (Rd (F := F) m).amount (barCell c) 0 d = 1 := rfl
theorem amount_own (c : Dev nD) (k : Fin 64) (a : Fin 4) (d e : Fin 16) (hk : part (.dma (ownS k)) = .own a d) :
    (Rd (F := F) m).amount (ownCell c k) 0 e = if a = 0 ∨ a = 1 then Nx else Na := by
  dsimp only [Rd]; rw [hk]; rfl
theorem payload_bar (c : Dev nD) (d : Fin 16) : (Rd (F := F) m).payload (barCell c) 0 d = landing (c - d) (0 - d) := rfl
theorem payload_own (c : Dev nD) (k : Fin 64) (a : Fin 4) (d e : Fin 16) (hk : part (.dma (ownS k)) = .own a d) :
    (Rd (F := F) m).payload (ownCell c k) 0 e = ownPay m c a d := by
  dsimp only [Rd]; rw [hk]; rfl

theorem expect_bar (c : Dev nD) : (Rd (F := F) m).expect (barCell c) 0 = 15 := by
  unfold Schedule.expect Schedule.amountOf
  rw [duties_bar, Finset.sum_congr rfl fun d _ => amount_bar m c d]; decide
theorem expect_own (c : Dev nD) (k : Fin 64) (a : Fin 4) (d : Fin 16) (hk : part (.dma (ownS k)) = .own a d) (hd : d ≠ 0) :
    (Rd (F := F) m).expect (ownCell c k) 0 = if a = 0 ∨ a = 1 then Nx else Na := by
  unfold Schedule.expect Schedule.amountOf
  rw [duties_own m c k a d hk hd, Finset.sum_singleton, amount_own m c k a d 0 hk]
theorem rest_own (c : Dev nD) (k : Fin 64) (a : Fin 4) (d : Fin 16) (hk : part (.dma (ownS k)) = .own a d) (hd : d ≠ 0) :
    bigSep ((Rd (F := F) m).duties (ownCell c k) 0 \ ∅) (fun e => (Rd (F := F) m).payload (ownCell c k) 0 e) = ownPay m c a d := by
  rw [Finset.sdiff_empty, duties_own m c k a d hk hd, bigSep_singleton, payload_own m c k a d 0 hk]

/-! ## Lists of shifts -/

/-- The shifts other than 0. -/
abbrev shifts : List (Fin 16) := [1, 2, 3, 4, 5, 6, 7, 8, 9, 10, 11, 12, 13, 14, 15]

/-- One resource for each shift of a list. -/
def each (Φ : Fin 16 → sProp 𝕄) : List (Fin 16) → sProp 𝕄
  | [] => iprop(emp)
  | d :: l => iprop(Φ d ∗ each Φ l)

omit [FloatOps F] in
theorem each_eq (Φ : Fin 16 → sProp 𝕄) (l : List (Fin 16)) (hl : l.Nodup) : each Φ l = bigSep l.toFinset Φ := by
  induction l with
  | nil => rw [List.toFinset_nil, bigSep_empty]; rfl
  | cons d l ih =>
    rw [List.toFinset_cons, bigSep_insert (by rw [List.mem_toFinset]; exact (List.nodup_cons.mp hl).1), ← ih (List.nodup_cons.mp hl).2]
    rfl

omit [FloatOps F] in
/-- Over the shifts other than 0, in the order of the program or in the other: the same. -/
theorem each_shifts (Φ : Fin 16 → sProp 𝕄) : each Φ shifts = bigSep (Finset.univ.erase 0) Φ := by
  rw [each_eq Φ shifts (by decide)]; congr 1
omit [FloatOps F] in
theorem each_reverse (Φ : Fin 16 → sProp 𝕄) : each Φ [15, 14, 13, 12, 11, 10, 9, 8, 7, 6, 5, 4, 3, 2, 1] = each Φ shifts := by
  rw [each_shifts, each_eq Φ _ (by decide)]; congr 1; decide
omit [FloatOps F] in
/-- All sixteen are shift 0 and the others. -/
theorem bigSep_shifts (Φ : Fin 16 → sProp 𝕄) : bigSep Finset.univ Φ = iprop(Φ 0 ∗ each Φ shifts) := by
  rw [each_shifts, show (Finset.univ : Finset (Fin 16)) = insert 0 (Finset.univ.erase 0) by decide,
    bigSep_insert (Finset.notMem_erase 0 _)]
  rfl
omit [FloatOps F] in
theorem each_sep (Φ Ψ : Fin 16 → sProp 𝕄) (l : List (Fin 16)) (hl : l.Nodup) :
    each (fun d => iprop(Φ d ∗ Ψ d)) l = iprop(each Φ l ∗ each Ψ l) := by
  rw [each_eq _ l hl, each_eq _ l hl, each_eq _ l hl, bigSep_sep']
omit [FloatOps F] in
theorem each_congr {Φ Ψ : Fin 16 → sProp 𝕄} (h : ∀ d, d ≠ 0 → Φ d = Ψ d) : each Φ shifts = each Ψ shifts := by
  rw [each_shifts, each_shifts]; exact bigSep_congr fun d hd => h d (Finset.ne_of_mem_erase hd)

/-- The rest of the barrier's round: for every shift `d`, slot `d` and tile `d` of device `c + d`. -/
theorem rest_bar (c : Dev nD) :
    bigSep ((Rd (F := F) m).duties (barCell c) 0 \ ∅) (fun d => (Rd (F := F) m).payload (barCell c) 0 d)
      = each (fun d => landing (c + d) d) shifts := by
  rw [Finset.sdiff_empty, duties_bar, each_shifts,
    show (Finset.univ.erase 0 : Finset (Fin 16)) = (Finset.univ.erase 0).map ⟨fun d => 0 - d, by decide⟩ by decide, bigSep_map,
    ← show (Finset.univ.erase 0 : Finset (Fin 16)) = (Finset.univ.erase 0).map ⟨fun d => 0 - d, by decide⟩ by decide]
  refine bigSep_congr fun d _ => ?_
  show landing (c - (0 - d)) (0 - (0 - d)) = landing (c + d) d
  rw [show c - (0 - d) = c + d by revert c d; decide, show 0 - (0 - d) = d by revert d; decide]

/-! ## What each device owes at launch; the levels -/

abbrev oweBar (c : Dev nD) (d : Fin 16) : CellTallies nD τ sig Unit := tallyAt (barCell (c + d)) () 1
abbrev oweX (c : Dev nD) (d : Fin 16) : CellTallies nD τ sig Unit := tallyAt (ownCell (c + d) (xrI d)) () Nx
abbrev oweA (c : Dev nD) (d : Fin 16) : CellTallies nD τ sig Unit := tallyAt (ownCell (c + d) (arI d)) () Na

/-- The debts of a list of shifts, the first of them added last. -/
def owed (f : Fin 16 → CellTallies nD τ sig Unit) : List (Fin 16) → CellTallies nD τ sig Unit
  | [] => 0
  | d :: l => owed f l + f d

theorem owed_pos {f : Fin 16 → CellTallies nD τ sig Unit} {l : List (Fin 16)} {g : GSem nD τ sig} {u : Unit} (h : 0 < owed f l g u) :
    ∃ d, 0 < f d g u := by
  induction l with
  | nil => exact absurd h (Nat.lt_irrefl 0)
  | cons d l ih =>
    unfold owed at h
    rw [Pi.add_apply, Finsupp.add_apply] at h
    rcases Nat.eq_zero_or_pos (f d g u) with h0 | h0
    · exact ih (by omega)
    · exact ⟨d, h0⟩

def oweXs (c : Dev nD) : CellTallies nD τ sig Unit := owed (oweX c) shifts
def oweAs (c : Dev nD) : CellTallies nD τ sig Unit := owed (oweA c) shifts
/-- At launch: one unit to every other barrier, a block of `x` and a tile to every other device. -/
def O₀ (c : Dev nD) : CellTallies nD τ sig Unit := (oweXs c + oweAs c) + owed (oweBar c) shifts

def L (g : GSem nD τ sig) : Finset Unit := if g.1.2 = .tc then {()} else ∅
/-- Barriers at 1, receipts of blocks at 2, receipts of tiles at 3, everything else at 0. -/
def levOf : Part → ℕ
  | .bar => 1
  | .own a _ => if a = 1 then 2 else if a = 3 then 3 else 0
  | .other => 0
def lv (g : GSem nD τ sig) (_ : Unit) : ℕ := levOf (part g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g' g : GSem nD τ sig} {n : ℕ} {u : Unit} (h : 0 < tallyAt g' () n g u) : g = g' := by
  rw [tallyAt_apply] at h
  by_contra hn
  rw [if_neg fun h' => hn h'.1] at h
  exact Nat.lt_irrefl 0 h

/-- Debts of tiles lie at level 3; -/
theorem oweAs_lev {c : Dev nD} {l : List (Fin 16)} {g : GSem nD τ sig} {u : Unit} (h : 0 < owed (oweA c) l g u) : g.1.2 = .tc ∧ lv g u = 3 := by
  obtain ⟨d, hd⟩ := owed_pos h
  rw [tally_pos hd]
  exact ⟨rfl, by unfold lv; rw [part_ar]; rfl⟩
/-- debts of blocks at level 2; -/
theorem oweXs_lev {c : Dev nD} {l : List (Fin 16)} {g : GSem nD τ sig} {u : Unit} (h : 0 < owed (oweX c) l g u) : g.1.2 = .tc ∧ lv g u = 2 := by
  obtain ⟨d, hd⟩ := owed_pos h
  rw [tally_pos hd]
  exact ⟨rfl, by unfold lv; rw [part_xr]; rfl⟩
/-- debts of signals at level 1. -/
theorem oweBar_lev {c : Dev nD} {l : List (Fin 16)} {g : GSem nD τ sig} {u : Unit} (h : 0 < owed (oweBar c) l g u) : g.1.2 = .tc ∧ lv g u = 1 := by
  obtain ⟨d, hd⟩ := owed_pos h
  rw [tally_pos hd]
  exact ⟨rfl, rfl⟩
theorem oweXA_lev {c : Dev nD} {g : GSem nD τ sig} {u : Unit} (h : 0 < (oweXs c + oweAs c) g u) : g.1.2 = .tc ∧ 1 < lv g u := by
  rw [Pi.add_apply, Finsupp.add_apply] at h
  rcases Nat.eq_zero_or_pos (oweXs c g u) with h0 | h0
  · have := oweAs_lev (show 0 < oweAs c g u by omega); exact ⟨this.1, by omega⟩
  · have := oweXs_lev h0; exact ⟨this.1, by omega⟩
theorem O₀_lev {c : Dev nD} {g : GSem nD τ sig} {u : Unit} (h : 0 < O₀ c g u) : g.1.2 = .tc ∧ 0 < lv g u := by
  unfold O₀ at h
  rw [Pi.add_apply, Finsupp.add_apply] at h
  rcases Nat.eq_zero_or_pos ((oweXs c + oweAs c) g u) with h0 | h0
  · have := oweBar_lev (show 0 < owed (oweBar c) shifts g u by omega); exact ⟨this.1, by omega⟩
  · have := oweXA_lev h0; exact ⟨this.1, by omega⟩

omit [FloatOps F] in
/-- A device may wait on a cell whose level is below those of all it owes. -/
theorem mayWait (c : Dev nD) (sm : SemLoc sig) (n : ℕ) (hn : levOf (part sm) ≤ n) (O : CellTallies nD τ sig Unit)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.AllPairs

end
-- ==== Proof.Steps.lean ====
/-
# One step of a device's body, for any shift

The body repeats a few effects, once for each shift `d ≠ 0`: a signal, the sends of a block and of a tile, the waits for them,
the loads. Here each is one rule, at a symbolic shift, read from the effect back: what the device holds before it, what it
holds after it and goes on from. What is still to do is one list of shifts, what is done another; a step moves the head
of the first list to the second.
-/
module

public import proofs.«01_k».proof.Proof.Protocol

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 64) → ℕ)

abbrev 𝒱₀ : Variants := Variants.none

/-- Device `c` running a program to `Q`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows throughout -/

/-- Every cell follows the schedule and has reached its only round; -/
def records : sProp 𝕄 :=
  iprop((bigSep Finset.univ fun ck : Dev nD × Option (Fin 64) => cellInv ER (Rd m) (K ck) (kcell ck))
    ∗ bigSep Finset.univ fun ck : Dev nD × Option (Fin 64) => reached ER (kcell ck) 0)
instance records_persistent : BI.Persistent (records m K) := by unfold records; infer_instance
/-- and the levels are as stated. -/
def Rec : sProp 𝕄 := iprop(records m K ∗ levAts L lv)
instance Rec_persistent : BI.Persistent (Rec m K) := by unfold Rec; infer_instance

theorem inv_of (ck : Dev nD × Option (Fin 64)) :
    (bigSep Finset.univ fun ck : Dev nD × Option (Fin 64) => (cellInv ER (Rd m) (K ck) (kcell ck) : sProp 𝕄)) ⊢ cellInv ER (Rd m) (K ck) (kcell ck) :=
  bigSep_elim (Finset.mem_univ ck)
omit [FloatOps F] in
theorem reached_of (ck : Dev nD × Option (Fin 64)) :
    (bigSep Finset.univ fun ck : Dev nD × Option (Fin 64) => (reached ER (kcell ck) 0 : sProp 𝕄)) ⊢ reached ER (kcell ck) 0 :=
  bigSep_elim (Finset.mem_univ ck)
theorem inv_at (ck : Dev nD × Option (Fin 64)) : Rec m K ⊢ cellInv ER (Rd m) (K ck) (kcell ck) := by
  unfold Rec records
  iintro ⟨⟨H, -⟩, -⟩
  iapply (inv_of m K ck)
  iexact H
theorem reached_at (ck : Dev nD × Option (Fin 64)) : Rec m K ⊢ reached ER (kcell ck) 0 := by
  unfold Rec records
  iintro ⟨⟨-, H⟩, -⟩
  iapply (reached_of ck)
  iexact H
theorem wait_at (c : Dev nD) (sm : SemLoc sig) (n : ℕ) (hn : levOf (part sm) ≤ n) (O : CellTallies nD τ sig Unit)
    (hO : ∀ g u, 0 < O g u → g.1.2 = .tc ∧ n < lv g u) : Rec m K ⊢ MayWait (c : Thread nD τ) sm () O := by
  unfold Rec
  iintro ⟨-, H⟩
  iapply (mayWait c sm n hn O hO)
  iexact H

/-- What a device owes, whatever it has waited for. -/
def owesX (c : Dev nD) (O : CellTallies nD τ sig Unit) : sProp 𝕄 := iprop(∃ W, owes (c : Thread nD τ) O W)

/-! ## The resources of the steps -/

/-- To signal device `c + d`: the duty, and the landing slot and tile that go with it. -/
def SigTodo (c : Dev nD) (d : Fin 16) : sProp 𝕄 := iprop(dutyTok ER (barCell (c + d)) 0 d ∗ landing c (0 - d))
/-- To send device `c + d` its block: the two duties, its slot, and the rows. -/
def XTodo (c : Dev nD) (d : Fin 16) : sProp 𝕄 :=
  iprop(dutyTok ER (ownCell c (xsI d)) 0 0 ∗ dutyTok ER (ownCell (c + d) (xrI d)) 0 0 ∗ (∃ f, gPts (c + d) d f) ∗ xPts m c (c + d))
/-- To send device `c + d` the tile: the two duties, its tile, and a share of the own one. -/
def ATodo (c : Dev nD) (d : Fin 16) : sProp 𝕄 :=
  iprop(dutyTok ER (ownCell c (asI d)) 0 0 ∗ dutyTok ER (ownCell (c + d) (arI d)) 0 0 ∗ (∃ f, aPts (c + d) d fullShare f)
    ∗ aPts c 0 (lent d) (landA m c))
/-- The credit that a send leaves on its own semaphore. -/
def Sent (c : Dev nD) (k : Fin 16 → Fin 64) (n : ℕ) (d : Fin 16) : sProp 𝕄 := cred (tallyAt (ownCell c (k d)) () n)
/-- To wait on the `d`-th semaphore of an array: credit and position; -/
def WTodo (c : Dev nD) (k : Fin 16 → Fin 64) (n : ℕ) (d : Fin 16) : sProp 𝕄 :=
  iprop(Sent c k n d ∗ atPos ER (ownCell c (k d)) 0 ∅ 0)
/-- once waited for: the semaphore back at zero, and what was handed over. -/
def WDone (c : Dev nD) (k : Fin 16 → Fin 64) (a : Fin 4) (d : Fin 16) : sProp 𝕄 :=
  iprop(semVal (ownCell c (k d)) 0 ∗ ownPay m c a d)

/-- The credits of the copies' destinations, wherever they lie in their buffers. -/
theorem gSlot_credit (off : Fin 3 → Nat) (h) : (gSlot off h).view.dmaCredit = Nx := rfl
theorem xRows_credit (off : Fin 2 → Nat) (h) : (xRows off h).view.dmaCredit = Nx := rfl
theorem aSlot_credit (off : Fin 3 → Nat) (h) : (aSlot off h).view.dmaCredit = Na := rfl

theorem gSlot_amount (off : Fin 3 → Nat) (h) (q : DmaSem sig) : (gSlot off h).view.amount (.dma q) = Nx := rfl
theorem aSlot_amount (off : Fin 3 → Nat) (h) (q : DmaSem sig) : (aSlot off h).view.amount (.dma q) = Na := rfl

omit [FloatOps F] in
theorem each_cons (Φ : Fin 16 → sProp 𝕄) (d : Fin 16) (l : List (Fin 16)) : each Φ (d :: l) = iprop(Φ d ∗ each Φ l) := rfl

/-! ## The steps of the handshake -/

theorem step_signal (c : Dev nD) (d : Fin 16) (hd : d ≠ 0) (n : Dev nD) (hn : n = c + d) (B : CellTallies nD τ sig Unit) (l : List (Fin 16))
    (Fr : sProp 𝕄) {α : Type} {Q : α → sProp 𝕄} {k : PUnit → Prog (TpuEff nD τ sig (Elt F) Λ₀ .tc) α}
    (h : iprop(Rec m K ∗ owesX c (B + owed (oweBar c) l) ∗ each (SigTodo c) l ∗ Fr) ⊢ Run c (k ⟨⟩) Q) :
    iprop(Rec m K ∗ owesX c (B + owed (oweBar c) (d :: l)) ∗ each (SigTodo c) (d :: l) ∗ Fr)
      ⊢ Run c (.op (.semSignal (n, .tc) barS (1#32 : BitVec 32).toInt.toNat) k) Q := by
  subst hn
  unfold owesX
  rw [show B + owed (oweBar c) (d :: l) = (B + owed (oweBar c) l) + oweBar c d from (add_assoc _ _ _).symm]
  iintro ⟨#HR, ⟨%W, HO⟩, Hl', HF⟩
  ihave Hl'' := (Entails.of_eq (show each (SigTodo c) (d :: l) = iprop((dutyTok ER (barCell (c + d)) 0 d ∗ landing c (0 - d)) ∗ each (SigTodo (F := F) c) l) from rfl)) $$ Hl'
  icases Hl'' with ⟨⟨Ht, Hl⟩, Hrest⟩
  iapply (Rounds.wp_signal 𝒱₀ ER (Rd m) (c : Thread nD τ) none (dst := ((c + d : Dev nD) : Thread nD τ)) (κ := K (c + d, none))
      (d := d) (by rw [duties_bar]; exact Finset.mem_erase.mpr ⟨hd, Finset.mem_univ _⟩) ((amount_bar m (c + d) d).trans (by decide)) ()
      (B + owed (oweBar c) l) rfl) $$ [HO Ht Hl]
  · isplitr; · iapply (inv_at m K (c + d, none)); iexact HR
    isplitl [HO]; · iexact HO
    isplitl [Ht]; · iexact Ht
    isplitl [Hl]
    · rw [payload_bar, shift_back]; iexact Hl
    iapply (reached_at m K (c + d, none)); iexact HR
  iintro HO
  iapply h
  isplitr; · iexact HR
  isplitl [HO]; · unfold owesX; iexists W; iexact HO
  isplitl [Hrest]; · iexact Hrest
  iexact HF

/-- The wait on the own barrier: the slots and the tiles of the others, and the barrier's counter at zero. -/
theorem step_barrier (c : Dev nD) (O : CellTallies nD τ sig Unit) (hO : ∀ g u, 0 < O g u → g.1.2 = .tc ∧ 1 < lv g u)
    (Fr : sProp 𝕄) {α : Type} {Q : α → sProp 𝕄} {k : PUnit → Prog (TpuEff nD τ sig (Elt F) Λ₀ .tc) α}
    (h : iprop(Rec m K ∗ owesX c O ∗ each (fun d => landing (c + d) d) shifts ∗ semVal (barCell c) 0 ∗ Fr) ⊢ Run c (k ⟨⟩) Q) :
    iprop(Rec m K ∗ owesX c O ∗ (cred (tallyAt (barCell c) () 15) ∗ atPos ER (barCell c) 0 ∅ 0) ∗ Fr)
      ⊢ Run c (.op (.semWait barS (15#32 : BitVec 32).toInt.toNat) k) Q := by
  unfold owesX
  have hb : levOf (part (.reg barS)) ≤ 1 := Nat.le_refl 1
  iintro ⟨#HR, ⟨%W, HO⟩, ⟨Hc, Hat⟩, HF⟩
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_at m K (c, none)); iexact HR
    isplitl [Hc]; · iexact Hc
    isplitl [HO]; · iexact HO
    isplitr; · iapply (wait_at m K c (.reg barS) 1 hb O hO); iexact HR
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (inv_at m K (c, none)); iexact HR
    iexact Hat
  iapply h
  isplitr; · iexact HR
  isplitl [HO]; · unfold owesX; iexists _; iexact HO
  isplitl [Hp]; · iexact Hp
  isplitl [Hz] <;> iassumption

/-! ## The sends -/

theorem step_xsend (c : Dev nD) (d : Fin 16) (hd : d ≠ 0) (n : Dev nD) (hn : n = c + d)
    (off : Fin 2 → Nat) (ho : off = ![256 * (c + d).val, 0]) (hi : ∀ a, off a + S256x256.size a ≤ S4096x256.size a)
    (off' : Fin 3 → Nat) (ho' : off' = ![d.val, 0, 0]) (hi' : ∀ a, off' a + S1x256x256.size a ≤ S16x256x256.size a)
    (sS sR : DmaSem sig) (hsS : sS = ownS (xsI d)) (hsR : sR = ownS (xrI d))
    {hsc : (gSlot off' hi' : Memref sig (Dev.tc n : Thread nD τ).2.kind .vmem S256x256 .bf16).view.ref.isScScratch = false}
    {hsrc : (xRows off hi).view.WordExact} {hdst : (gSlot off' hi').view.WordExact}
    {hsem : DmaTarget.Typed .vmem (.dma sR) (.remote (Dev.tc n : Thread nD τ) (gSlot off' hi') (.dma sS) hsc)}
    (B : CellTallies nD τ sig Unit) (l dn : List (Fin 16))
    (Fr : sProp 𝕄) {α : Type} {Q : α → sProp 𝕄} {k : PUnit → Prog (TpuEff nD τ sig (Elt F) Λ₀ .tc) α}
    (h : iprop(Rec m K ∗ owesX c (B + owed (oweX c) l) ∗ each (XTodo m c) l ∗ each (Sent c xsI Nx) (d :: dn) ∗ Fr) ⊢ Run c (k ⟨⟩) Q) :
    iprop(Rec m K ∗ owesX c (B + owed (oweX c) (d :: l)) ∗ each (XTodo m c) (d :: l) ∗ each (Sent c xsI Nx) dn ∗ Fr)
      ⊢ Run c (.op (.enqueueDma (xRows off hi) (.remote (Dev.tc n : Thread nD τ) (gSlot off' hi') (.dma sS) hsc) (.dma sR) hsrc hdst hsem) k) Q := by
  subst hn hsS hsR
  have hg := gSlot_set d off' ho' hi'
  have hx := xRows_set (c + d) off ho hi
  rw [show B + owed (oweX c) (d :: l) = (B + owed (oweX c) l) + oweX c d from (add_assoc _ _ _).symm]
  unfold owesX
  iintro ⟨#HR, ⟨%W, HO⟩, Hl, Hdn, HF⟩
  ihave Hl' := (Entails.of_eq (show each (XTodo m c) (d :: l) = iprop((dutyTok ER (ownCell c (xsI d)) 0 0 ∗ dutyTok ER (ownCell (c + d) (xrI d)) 0 0
    ∗ (∃ f, gPts (c + d) d f) ∗ xPts m c (c + d)) ∗ each (XTodo m c) l) from rfl)) $$ Hl
  icases Hl' with ⟨⟨Ht1, Ht2, ⟨%f, Hg⟩, Hx⟩, Hrest⟩
  iapply (Rounds.wp_send_pointsTo 𝒱₀ ER (Rd m) (c : Thread nD τ) none (κ₁ := K (c, some (xsI d))) (κ₂ := K (c + d, some (xrI d)))
    (c' := ((c + d : Dev nD) : Thread nD τ)) (src := xRows off hi) (dst := gSlot off' hi') (sS := .dma (ownS (xsI d))) (sem := .dma (ownS (xrI d)))
    (r₁ := 0) (r₂ := 0) (d₁ := 0) (d₂ := 0) (fs := xstg m c) (fd := f) (q := fullShare)
    (by rw [duties_own m c (xsI d) 0 d (part_xs d) hd]; exact Finset.mem_singleton_self _)
    (by rw [duties_own m (c + d) (xrI d) 1 d (part_xr d) hd]; exact Finset.mem_singleton_self _)
    () () Nx (gSlot_amount off' hi' (ownS (xrI d))) (amount_own m c (xsI d) 0 d 0 (part_xs d)) (amount_own m (c + d) (xrI d) 1 d 0 (part_xr d))
    (B + owed (oweX c) l) rfl (W := W)
    (by rw [payload_own m c (xsI d) 0 d 0 (part_xs d), hx]; exact BI.Entails.refl _)
    (by rw [payload_own m (c + d) (xrI d) 1 d 0 (part_xr d)]
        refine (Entails.of_eq (pointsTo_congr (landed_x m c d off ho hi off' ho' hi' f))).trans ?_
        rw [hg]; exact BI.Entails.refl _)) $$ [HO Ht1 Ht2 Hg Hx]
  · isplitr; · iapply (inv_at m K (c, some (xsI d))); iexact HR
    isplitr; · iapply (inv_at m K (c + d, some (xrI d))); iexact HR
    isplitl [Hx]; · rw [hx]; unfold xPts; iexact Hx
    isplitl [Hg]; · rw [hg]; unfold gPts; iexact Hg
    isplitl [HO]; · iexact HO
    isplitl [Ht1]; · iexact Ht1
    isplitr; · iapply (reached_at m K (c, some (xsI d))); iexact HR
    isplitl [Ht2]; · iexact Ht2
    iapply (reached_at m K (c + d, some (xrI d))); iexact HR
  iintro ⟨Hc, HO⟩
  iapply h
  isplitr; · iexact HR
  isplitl [HO]; · unfold owesX; iexists W; iexact HO
  isplitl [Hrest]; · iexact Hrest
  isplitl [Hc Hdn]
  · rw [each_cons]
    isplitl [Hc]; · unfold Sent; iexact Hc
    iexact Hdn
  iexact HF

theorem step_asend (c : Dev nD) (d : Fin 16) (hd : d ≠ 0) (n : Dev nD) (hn : n = c + d)
    (off : Fin 3 → Nat) (ho : off = ![0, 0, 0]) (hi : ∀ a, off a + S1x8x128.size a ≤ S16x8x128.size a)
    (off' : Fin 3 → Nat) (ho' : off' = ![d.val, 0, 0]) (hi' : ∀ a, off' a + S1x8x128.size a ≤ S16x8x128.size a)
    (sS sR : DmaSem sig) (hsS : sS = ownS (asI d)) (hsR : sR = ownS (arI d))
    {hsc : (aSlot off' hi' : Memref sig (Dev.tc n : Thread nD τ).2.kind .vmem S8x128 .f32).view.ref.isScScratch = false}
    {hsrc : (aSlot off hi).view.WordExact} {hdst : (aSlot off' hi').view.WordExact}
    {hsem : DmaTarget.Typed .vmem (.dma sR) (.remote (Dev.tc n : Thread nD τ) (aSlot off' hi') (.dma sS) hsc)}
    (B : CellTallies nD τ sig Unit) (l dn : List (Fin 16))
    (Fr : sProp 𝕄) {α : Type} {Q : α → sProp 𝕄} {k : PUnit → Prog (TpuEff nD τ sig (Elt F) Λ₀ .tc) α}
    (h : iprop(Rec m K ∗ owesX c (B + owed (oweA c) l) ∗ each (ATodo m c) l ∗ each (Sent c asI Na) (d :: dn) ∗ Fr) ⊢ Run c (k ⟨⟩) Q) :
    iprop(Rec m K ∗ owesX c (B + owed (oweA c) (d :: l)) ∗ each (ATodo m c) (d :: l) ∗ each (Sent c asI Na) dn ∗ Fr)
      ⊢ Run c (.op (.enqueueDma (aSlot off hi) (.remote (Dev.tc n : Thread nD τ) (aSlot off' hi') (.dma sS) hsc) (.dma sR) hsrc hdst hsem) k) Q := by
  subst hn hsS hsR
  have hg := aSlot_set d off' ho' hi'
  have hx := aSlot_set 0 off ho hi
  rw [show B + owed (oweA c) (d :: l) = (B + owed (oweA c) l) + oweA c d from (add_assoc _ _ _).symm]
  unfold owesX
  iintro ⟨#HR, ⟨%W, HO⟩, Hl, Hdn, HF⟩
  ihave Hl' := (Entails.of_eq (show each (ATodo m c) (d :: l) = iprop((dutyTok ER (ownCell c (asI d)) 0 0 ∗ dutyTok ER (ownCell (c + d) (arI d)) 0 0
    ∗ (∃ f, aPts (c + d) d fullShare f) ∗ aPts c 0 (lent d) (landA m c)) ∗ each (ATodo m c) l) from rfl)) $$ Hl
  icases Hl' with ⟨⟨Ht1, Ht2, ⟨%f, Hg⟩, Hx⟩, Hrest⟩
  iapply (Rounds.wp_send_pointsTo 𝒱₀ ER (Rd m) (c : Thread nD τ) none (κ₁ := K (c, some (asI d))) (κ₂ := K (c + d, some (arI d)))
    (c' := ((c + d : Dev nD) : Thread nD τ)) (src := aSlot off hi) (dst := aSlot off' hi') (sS := .dma (ownS (asI d))) (sem := .dma (ownS (arI d)))
    (r₁ := 0) (r₂ := 0) (d₁ := 0) (d₂ := 0) (fs := landA m c) (fd := f) (q := lent d)
    (by rw [duties_own m c (asI d) 2 d (part_as d) hd]; exact Finset.mem_singleton_self _)
    (by rw [duties_own m (c + d) (arI d) 3 d (part_ar d) hd]; exact Finset.mem_singleton_self _)
    () () Na (aSlot_amount off' hi' (ownS (arI d))) (amount_own m c (asI d) 2 d 0 (part_as d)) (amount_own m (c + d) (arI d) 3 d 0 (part_ar d))
    (B + owed (oweA c) l) rfl (W := W)
    (by rw [payload_own m c (asI d) 2 d 0 (part_as d), hx]; exact BI.Entails.refl _)
    (by rw [payload_own m (c + d) (arI d) 3 d 0 (part_ar d)]
        refine (Entails.of_eq (pointsTo_congr (landed_a m c d off ho hi off' ho' hi' f))).trans ?_
        rw [hg]; exact BI.Entails.refl _)) $$ [HO Ht1 Ht2 Hg Hx]
  · isplitr; · iapply (inv_at m K (c, some (asI d))); iexact HR
    isplitr; · iapply (inv_at m K (c + d, some (arI d))); iexact HR
    isplitl [Hx]; · rw [hx]; unfold aPts; iexact Hx
    isplitl [Hg]; · rw [hg]; unfold aPts; iexact Hg
    isplitl [HO]; · iexact HO
    isplitl [Ht1]; · iexact Ht1
    isplitr; · iapply (reached_at m K (c, some (asI d))); iexact HR
    isplitl [Ht2]; · iexact Ht2
    iapply (reached_at m K (c + d, some (arI d))); iexact HR
  iintro ⟨Hc, HO⟩
  iapply h
  isplitr; · iexact HR
  isplitl [HO]; · unfold owesX; iexists W; iexact HO
  isplitl [Hrest]; · iexact Hrest
  isplitl [Hc Hdn]
  · rw [each_cons]
    isplitl [Hc]; · unfold Sent; iexact Hc
    iexact Hdn
  iexact HF

/-! ## The waits -/

/-- A wait on the `d`-th semaphore of an array. -/
theorem step_wait (c : Dev nD) (k : Fin 16 → Fin 64) (a : Fin 4) (hk : ∀ d, part (.dma (ownS (k d))) = .own a d)
    (N : ℕ) (hN : N = if a = 0 ∨ a = 1 then Nx else Na) (O : CellTallies nD τ sig Unit)
    (hO : ∀ g u, 0 < O g u → g.1.2 = .tc ∧ levOf (.own a 0) < lv g u) (d : Fin 16) (hd : d ≠ 0)
    (sm : DmaSem sig) (hsm : sm = ownS (k d)) {sp sp' : Space} {s s' : Shape} {e e' : EltTy}
    {src : Memref sig .tc sp' s' e'} {κ' : Kind} {dst : Memref sig κ' sp s e} {hsrc : src.view.WordExact} {hdst : dst.view.WordExact}
    (hdN : dst.view.dmaCredit = N) (l dn : List (Fin 16))
    (Fr : sProp 𝕄) {α : Type} {Q : α → sProp 𝕄} {kk : PUnit → Prog (TpuEff nD τ sig (Elt F) Λ₀ .tc) α}
    (h : iprop(Rec m K ∗ owesX c O ∗ each (WTodo c k N) l ∗ each (WDone m c k a) (d :: dn) ∗ Fr) ⊢ Run c (kk ⟨⟩) Q) :
    iprop(Rec m K ∗ owesX c O ∗ each (WTodo c k N) (d :: l) ∗ each (WDone m c k a) dn ∗ Fr)
      ⊢ Run c (.op (.waitDma2 sm src dst hsrc hdst) kk) Q := by
  subst hsm
  unfold owesX
  have hb : levOf (part (.dma (ownS (k d)))) ≤ levOf (.own a 0) := by rw [hk d]; exact Nat.le_refl _
  iintro ⟨#HR, ⟨%W, HO⟩, Hl, Hdn, HF⟩
  ihave Hl' := (Entails.of_eq (show each (WTodo c k N) (d :: l) = iprop((cred (tallyAt (ownCell c (k d)) () N) ∗ atPos ER (ownCell c (k d)) 0 ∅ 0)
    ∗ each (WTodo c k N) l) from rfl)) $$ Hl
  icases Hl' with ⟨⟨Hc, Hat⟩, Hrest⟩
  iapply (Rounds.wp_wait_rest_token 𝒱₀ ER (Rd m) (c : Thread nD τ) none (κ := K (c, some (k d)))
      (wpE_waitDma2_eq 𝒱₀ (c : Thread nD τ) none Set.univ) (Set.mem_univ _) () (O := O) (W := W) (R := 0) (m := 0) (T := ∅)
      (by rw [Nat.zero_add, expect_own m c (k d) a d (hk d) hd, hdN, hN])) $$ [Hc HO Hat]
  · isplitr; · iapply (inv_at m K (c, some (k d))); iexact HR
    isplitl [Hc]; · rw [hdN]; iexact Hc
    isplitl [HO]; · iexact HO
    isplitr; · iapply (wait_at m K c (.dma (ownS (k d))) (levOf (.own a 0)) hb O hO); iexact HR
    iexact Hat
  iintro ⟨HO, Hat, -, Hpay⟩
  ihave Hp := (Entails.of_eq (rest_own m c (k d) a d (hk d) hd)) $$ Hpay
  imod (Rounds.cell_close ER (Rd m) (Set.mem_univ (K (c, some (k d)))) (fun h => h) (R := 0 + 1) (duties_later m (ownCell c (k d)))) $$ [Hat] with Hz
  · isplitr; · iapply (inv_at m K (c, some (k d))); iexact HR
    iexact Hat
  iapply h
  isplitr; · iexact HR
  isplitl [HO]; · unfold owesX; iexists _; iexact HO
  isplitl [Hrest]; · iexact Hrest
  isplitl [Hz Hp Hdn]
  · rw [each_cons]
    isplitl [Hz Hp]
    · unfold WDone; isplitl [Hz] <;> iassumption
    iexact Hdn
  iexact HF

end Cert.AllPairs

end
-- ==== Proof.Loads.lean ====
/-
# The loads and the stores of a device's body

Each reads a piece that the device holds, and reads there what the contents say: a block of rows of `x` or of `w`, a landing slot, the
own tile, all the tiles at once. For the last a share of each tile is enough, so that the shares lent to the sends of the own
tile need not be back.
-/
module

public import proofs.«01_k».proof.Proof.Steps

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The staged copy of `w`. -/
def wPts (c : Dev nD) : sProp 𝕄 := ((c : Thread nD τ).loc cc0_stg1_0) ↦[Finset.univ]{fullShare} wstg m c
/-- The result's staging buffer. -/
def oPts (c : Dev nD) (f : Buf (Elt F) ((c : Thread nD τ).loc cc0_stg2_0)) : sProp 𝕄 := ((c : Thread nD τ).loc cc0_stg2_0) ↦[Finset.univ]{fullShare} f

theorem step_load_x (c : Dev nD) (b : Fin 16) (off : Fin 2 → Nat) (ho : off = ![256 * b.val, 0])
    (hi : ∀ a, off a + S256x256.size a ≤ S4096x256.size a) {hl : xM.view.LoadsAt (Rect.unit (s := S4096x256) off S256x256.size hi).toLoadRect}
    (A B C D Fr : sProp 𝕄) {α : Type} {Q : α → sProp 𝕄} {k : Vec F S256x256 .bf16 → Prog (TpuEff nD τ sig (Elt F) Λ₀ .tc) α}
    (h : iprop(A ∗ B ∗ C ∗ D ∗ xPts m c b ∗ Fr) ⊢ Run c (k (xBlk m c b)) Q) :
    iprop(A ∗ B ∗ C ∗ D ∗ xPts m c b ∗ Fr) ⊢ Run c (.op (.load xM (Rect.unit (s := S4096x256) off S256x256.size hi).toLoadRect hl) k) Q := by
  subst ho
  have hs : (xM.access (Rect.unit (s := S4096x256) ![256 * b.val, 0] S256x256.size hi)).set ⊆ xSet b :=
    (xRows_set b _ rfl hi).subset
  iintro ⟨HA, HB, HC, HD, Hx, HF⟩
  unfold xPts
  iapply (wp_load_rect 𝒱₀ (c : Thread nD τ) none Set.univ (m := xM) hs) $$ Hx
  iintro Hx
  iapply h
  isplitl [HA]; · iexact HA
  isplitl [HB]; · iexact HB
  isplitl [HC]; · iexact HC
  isplitl [HD]; · iexact HD
  isplitl [Hx]; · unfold xPts; iexact Hx
  iexact HF

theorem step_load_w (c : Dev nD) (b : Fin 16) (off : Fin 2 → Nat) (ho : off = ![256 * b.val, 0])
    (hi : ∀ a, off a + S256x8192.size a ≤ S4096x8192.size a) {hl : wM.view.LoadsAt (Rect.unit (s := S4096x8192) off S256x8192.size hi).toLoadRect}
    (A B C D E Fr : sProp 𝕄) {α : Type} {Q : α → sProp 𝕄} {k : Vec F S256x8192 .bf16 → Prog (TpuEff nD τ sig (Elt F) Λ₀ .tc) α}
    (h : iprop(A ∗ B ∗ C ∗ D ∗ E ∗ wPts m c ∗ Fr) ⊢ Run c (k (wBlk m c b)) Q) :
    iprop(A ∗ B ∗ C ∗ D ∗ E ∗ wPts m c ∗ Fr) ⊢ Run c (.op (.load wM (Rect.unit (s := S4096x8192) off S256x8192.size hi).toLoadRect hl) k) Q := by
  subst ho
  iintro ⟨HA, HB, HC, HD, HE, Hx, HF⟩
  unfold wPts
  iapply (wp_load 𝒱₀ (c : Thread nD τ) none Set.univ (m := wM) (Finset.subset_univ _)) $$ Hx
  iintro Hx
  iapply h
  isplitl [HA]; · iexact HA
  isplitl [HB]; · iexact HB
  isplitl [HC]; · iexact HC
  isplitl [HD]; · iexact HD
  isplitl [HE]; · iexact HE
  isplitl [Hx]; · unfold wPts; iexact Hx
  iexact HF

theorem gM_set (d : Fin 16) (hi) : (gM.access (Rect.unit (s := S16x256x256) ![d.val, 0, 0] S1x256x256.size hi)).set = gSet d := by
  show (View.slice (View.whole cc0_scratch0) _).set = _
  rw [← gSlot_set d ![d.val, 0, 0] rfl hi]
  exact (View.set_reshape _ _).symm

/-- The slot just waited for, read. -/
theorem step_load_g (c : Dev nD) (d : Fin 16) (off : Fin 3 → Nat) (ho : off = ![d.val, 0, 0])
    (hi : ∀ a, off a + S1x256x256.size a ≤ S16x256x256.size a) {hl : gM.view.LoadsAt (Rect.unit (s := S16x256x256) off S1x256x256.size hi).toLoadRect}
    (A B C Fr : sProp 𝕄) (dn : List (Fin 16)) {α : Type} {Q : α → sProp 𝕄} {k : Vec F S1x256x256 .bf16 → Prog (TpuEff nD τ sig (Elt F) Λ₀ .tc) α}
    (h : iprop(A ∗ B ∗ C ∗ each (WDone m c xrI 1) (d :: dn) ∗ Fr) ⊢ Run c (k (gBlk m c d)) Q) :
    iprop(A ∗ B ∗ C ∗ each (WDone m c xrI 1) (d :: dn) ∗ Fr)
      ⊢ Run c (.op (.load gM (Rect.unit (s := S16x256x256) off S1x256x256.size hi).toLoadRect hl) k) Q := by
  subst ho
  have hs : (gM.access (Rect.unit (s := S16x256x256) ![d.val, 0, 0] S1x256x256.size hi)).set ⊆ gSet d := (gM_set d hi).subset
  have hd : WDone m c xrI 1 d = iprop(semVal (ownCell c (xrI d)) 0 ∗ gPts c d (landX m c)) := rfl
  rw [each_cons, hd] at h ⊢
  iintro ⟨HA, HB, HC, ⟨⟨Hz, Hx⟩, Hdn⟩, HF⟩
  unfold gPts
  iapply (wp_load_rect 𝒱₀ (c : Thread nD τ) none Set.univ (m := gM) hs) $$ Hx
  iintro Hx
  iapply h
  isplitl [HA]; · iexact HA
  isplitl [HB]; · iexact HB
  isplitl [HC]; · iexact HC
  isplitr [HF]
  · isplitr [Hdn]
    · isplitl [Hz]; · iexact Hz
      unfold gPts; iexact Hx
    iexact Hdn
  iexact HF

/-- The own tile, read before it is overwritten: whatever it holds. -/
theorem step_load_a (c : Dev nD) (hi : ∀ a, (![0, 0, 0] : Fin 3 → Nat) a + S1x8x128.size a ≤ S16x8x128.size a)
    {hl : aM.view.LoadsAt (Rect.unit (s := S16x8x128) ![0, 0, 0] S1x8x128.size hi).toLoadRect}
    (A B Fr : sProp 𝕄) {α : Type} {Q : α → sProp 𝕄} {k : Vec F S1x8x128 .f32 → Prog (TpuEff nD τ sig (Elt F) Λ₀ .tc) α}
    (h : ∀ v, iprop(A ∗ B ∗ (∃ f, aPts c 0 fullShare f) ∗ Fr) ⊢ Run c (k v) Q) :
    iprop(A ∗ B ∗ (∃ f, aPts c 0 fullShare f) ∗ Fr)
      ⊢ Run c (.op (.load aM (Rect.unit (s := S16x8x128) ![0, 0, 0] S1x8x128.size hi).toLoadRect hl) k) Q := by
  have hs : (aM.access (Rect.unit (s := S16x8x128) ![0, 0, 0] S1x8x128.size hi)).set ⊆ aSet 0 := (tile0_set hi).subset
  iintro ⟨HA, HB, ⟨%f, Hx⟩, HF⟩
  unfold aPts
  iapply (wp_load_rect 𝒱₀ (c : Thread nD τ) none Set.univ (m := aM) hs) $$ Hx
  iintro Hx
  iapply (h _)
  isplitl [HA]; · iexact HA
  isplitl [HB]; · iexact HB
  isplitl [Hx]; · unfold aPts; iexists f; iexact Hx
  iexact HF

/-- The maximum stored in the own tile. -/
theorem step_store_a (c : Dev nD) (hi : ∀ a, (![0, 0, 0] : Fin 3 → Nat) a + S1x8x128.size a ≤ S16x8x128.size a)
    {hx : (aM.access (Rect.unit (s := S16x8x128) ![0, 0, 0] S1x8x128.size hi)).Stores Finset.univ}
    {hm : (Finset.univ : Finset (Rect.unit (s := S16x8x128) ![0, 0, 0] S1x8x128.size hi).shape.Idx) = Finset.univ
      ∨ ∀ a, (Rect.unit (s := S16x8x128) ![0, 0, 0] S1x8x128.size hi).stride a = 1}
    (A B Fr : sProp 𝕄) {α : Type} {Q : α → sProp 𝕄} {k : PUnit → Prog (TpuEff nD τ sig (Elt F) Λ₀ .tc) α}
    (v : FVec F S1x8x128 .f32) (hv : v = tileAt m c)
    (h : iprop(A ∗ B ∗ aPts c 0 fullShare (landA m c) ∗ Fr) ⊢ Run c (k ⟨⟩) Q) :
    iprop(A ∗ B ∗ (∃ f, aPts c 0 fullShare f) ∗ Fr)
      ⊢ Run c (.op (.store aM (Rect.unit (s := S16x8x128) ![0, 0, 0] S1x8x128.size hi) v Finset.univ hx hm) k) Q := by
  subst hv
  have hs : (aM.access (Rect.unit (s := S16x8x128) ![0, 0, 0] S1x8x128.size hi)).setOn Finset.univ ⊆ aSet 0 := (tile0_set hi).subset
  iintro ⟨HA, HB, ⟨%f, Hx⟩, HF⟩
  unfold aPts
  iapply (wp_store 𝒱₀ (c : Thread nD τ) none Set.univ (m := aM) (Mk := Finset.univ) hs) $$ Hx
  iintro Hx
  ihave Hx' := (Entails.of_eq (pointsTo_congr (stored_tile m c hi f))) $$ Hx
  iapply h
  isplitl [HA]; · iexact HA
  isplitl [HB]; · iexact HB
  isplitl [Hx']; · unfold aPts; iexact Hx'
  iexact HF

/-! ## All the tiles at once -/

omit [FloatOps F] in
theorem eq_of_entails {P Q : sProp 𝕄} (h : P ⊢ Q) (h' : Q ⊢ P) : P = Q := BI.Entails.antisymm h h'

omit [FloatOps F] in
/-- A whole tile is the share that stays and the sixteen that may be lent. -/
theorem shares_eq (c : Dev nD) (e : Fin 16) (f) :
    aPts (F := F) c e fullShare f = iprop(aPts c e kept f ∗ bigSep Finset.univ fun i : Fin 16 => aPts c e (lent i) f) := by
  unfold aPts
  exact BI.Entails.antisymm (Transfers.pointsTo_toks_split fullShare 16) (Transfers.pointsTo_toks_join fullShare 16)

/-- All tiles, at the share that stays. -/
def aAll (c : Dev nD) : sProp 𝕄 := ((c : Thread nD τ).loc cc0_scratch1) ↦[Finset.univ]{kept} landA m c
/-- What of a received tile is set aside while all the tiles are read at once. -/
def Aside (c : Dev nD) (d : Fin 16) : sProp 𝕄 :=
  iprop(semVal (ownCell c (arI d)) 0 ∗ bigSep Finset.univ fun i : Fin 16 => aPts c d (lent i) (landA m c))

/-- The shifts in the order in which the steps have dealt with them: the last first. -/
abbrev back : List (Fin 16) := [15, 14, 13, 12, 11, 10, 9, 8, 7, 6, 5, 4, 3, 2, 1]

theorem aAll_eq (c : Dev nD) :
    iprop(each (WDone m c arI 3) back ∗ aPts c 0 kept (landA m c)) = iprop(each (Aside m c) back ∗ aAll m c) := by
  have h1 : each (WDone m c arI 3) back = iprop(each (Aside m c) back ∗ each (fun d => aPts c d kept (landA m c)) back) := by
    rw [← each_sep (Aside m c) (fun d => aPts c d kept (landA m c)) back (by decide), each_reverse, each_reverse]
    refine each_congr fun d _ => ?_
    show iprop(semVal (ownCell c (arI d)) 0 ∗ aPts c d fullShare (landA m c)) = _
    rw [shares_eq]
    unfold Aside
    refine eq_of_entails ?_ ?_
    · iintro ⟨H1, H2, H3⟩
      isplitr [H2]
      · isplitl [H1] <;> iassumption
      iexact H2
    · iintro ⟨⟨H1, H3⟩, H2⟩
      isplitl [H1]; · iexact H1
      isplitl [H2] <;> iassumption
  have h2 : aAll m c = iprop(aPts c 0 kept (landA m c) ∗ each (fun d => aPts c d kept (landA m c)) back) := by
    rw [each_reverse, ← bigSep_shifts (fun d => aPts c d kept (landA m c))]
    unfold aAll aPts
    rw [← aSet_biUnion]
    exact pointsTo_biUnion _ _ aSet_disjoint
  rw [h1, h2]
  refine eq_of_entails ?_ ?_
  · iintro ⟨⟨H1, H2⟩, H3⟩
    isplitl [H1]; · iexact H1
    isplitl [H3] <;> iassumption
  · iintro ⟨H1, H3, H2⟩
    isplitr [H3]
    · isplitl [H1] <;> iassumption
    iexact H3

theorem hz3 : (![0, 0, 0] : Fin 3 → Nat) = fun _ => 0 := funext fun a => by fin_cases a <;> rfl
theorem hz2 : (![0, 0] : Fin 2 → Nat) = fun _ => 0 := funext fun a => by fin_cases a <;> rfl

/-- All the tiles, read. -/
theorem step_load_all (c : Dev nD) (hi : ∀ a, (![0, 0, 0] : Fin 3 → Nat) a + S16x8x128.size a ≤ S16x8x128.size a)
    {hl : aM.view.LoadsAt (Rect.unit (s := S16x8x128) ![0, 0, 0] S16x8x128.size hi).toLoadRect}
    (A B C Fr : sProp 𝕄) {α : Type} {Q : α → sProp 𝕄} {k : Vec F S16x8x128 .f32 → Prog (TpuEff nD τ sig (Elt F) Λ₀ .tc) α}
    (h : iprop(A ∗ B ∗ C ∗ aAll m c ∗ Fr) ⊢ Run c (k (landA m c)) Q) :
    iprop(A ∗ B ∗ C ∗ aAll m c ∗ Fr)
      ⊢ Run c (.op (.load aM (Rect.unit (s := S16x8x128) ![0, 0, 0] S16x8x128.size hi).toLoadRect hl) k) Q := by
  have hr : aM.view.readAt (Elt F) (Rect.unit (s := S16x8x128) ![0, 0, 0] S16x8x128.size hi).toLoadRect (landA m c) = landA m c :=
    Memref.readAt_unit_zero (Elt F) cc0_scratch1 hz3 hi (landA m c)
  iintro ⟨HA, HB, HC, Hx, HF⟩
  unfold aAll
  iapply (wp_load 𝒱₀ (c : Thread nD τ) none Set.univ (m := aM) (Finset.subset_univ _)) $$ Hx
  iintro Hx
  rw [hr]
  iapply h
  isplitl [HA]; · iexact HA
  isplitl [HB]; · iexact HB
  isplitl [HC]; · iexact HC
  isplitl [Hx]; · unfold aAll; iexact Hx
  iexact HF

/-! ## The result -/

theorem step_load_o (c : Dev nD) (hi : ∀ a, (![0, 0] : Fin 2 → Nat) a + S256x8192.size a ≤ S256x8192.size a)
    {hl : oM.view.LoadsAt (Rect.unit (s := S256x8192) ![0, 0] S256x8192.size hi).toLoadRect}
    (A B C D Fr : sProp 𝕄) {α : Type} {Q : α → sProp 𝕄} {k : Vec F S256x8192 .f32 → Prog (TpuEff nD τ sig (Elt F) Λ₀ .tc) α}
    (h : ∀ v, iprop(A ∗ B ∗ C ∗ D ∗ (∃ f, oPts c f) ∗ Fr) ⊢ Run c (k v) Q) :
    iprop(A ∗ B ∗ C ∗ D ∗ (∃ f, oPts c f) ∗ Fr)
      ⊢ Run c (.op (.load oM (Rect.unit (s := S256x8192) ![0, 0] S256x8192.size hi).toLoadRect hl) k) Q := by
  iintro ⟨HA, HB, HC, HD, ⟨%f, Hx⟩, HF⟩
  unfold oPts
  iapply (wp_load 𝒱₀ (c : Thread nD τ) none Set.univ (m := oM) (Finset.subset_univ _)) $$ Hx
  iintro Hx
  iapply (h _)
  isplitl [HA]; · iexact HA
  isplitl [HB]; · iexact HB
  isplitl [HC]; · iexact HC
  isplitl [HD]; · iexact HD
  isplitl [Hx]; · unfold oPts; iexists f; iexact Hx
  iexact HF

theorem step_store_o (c : Dev nD) (hi : ∀ a, (![0, 0] : Fin 2 → Nat) a + S256x8192.size a ≤ S256x8192.size a)
    {hx : (oM.access (Rect.unit (s := S256x8192) ![0, 0] S256x8192.size hi)).Stores Finset.univ}
    {hm : (Finset.univ : Finset (Rect.unit (s := S256x8192) ![0, 0] S256x8192.size hi).shape.Idx) = Finset.univ
      ∨ ∀ a, (Rect.unit (s := S256x8192) ![0, 0] S256x8192.size hi).stride a = 1}
    (A B C D Fr : sProp 𝕄) {α : Type} {Q : α → sProp 𝕄} {k : PUnit → Prog (TpuEff nD τ sig (Elt F) Λ₀ .tc) α}
    (v : FVec F S256x8192 .f32)
    (h : iprop(A ∗ B ∗ C ∗ D ∗ oPts c v ∗ Fr) ⊢ Run c (k ⟨⟩) Q) :
    iprop(A ∗ B ∗ C ∗ D ∗ (∃ f, oPts c f) ∗ Fr)
      ⊢ Run c (.op (.store oM (Rect.unit (s := S256x8192) ![0, 0] S256x8192.size hi) v Finset.univ hx hm) k) Q := by
  have hw : ∀ f, (oM.access (Rect.unit (s := S256x8192) ![0, 0] S256x8192.size hi) : View sig .tc _ _ _).write (Elt F) f v Finset.univ = v := fun f =>
    Memref.write_access_unit_zero_univ (Elt F) cc0_stg2_0 hz2 hi f v
  iintro ⟨HA, HB, HC, HD, ⟨%f, Hx⟩, HF⟩
  unfold oPts
  iapply (wp_store 𝒱₀ (c : Thread nD τ) none Set.univ (m := oM) (r := Rect.unit (s := S256x8192) ![0, 0] S256x8192.size hi) (Mk := Finset.univ) (Finset.subset_univ _)) $$ Hx
  iintro Hx
  rw [hw]
  iapply h
  isplitl [HA]; · iexact HA
  isplitl [HB]; · iexact HB
  isplitl [HC]; · iexact HC
  isplitl [HD]; · iexact HD
  isplitl [Hx]; · unfold oPts; iexact Hx
  iexact HF

end Cert.AllPairs

end
-- ==== Proof.Phases.lean ====
/-
# What a device holds between the phases of its body

A device's body is the handshake, the sends of the blocks, the products, the sends of the tiles, the receipt of the tiles, the
result, and the waits for its own sends. Between two phases nothing happens; only what is held is grouped anew, by
array of semaphores before, by shift after, or the other way round. This module states each grouping as a plain entailment.
-/
module

public import proofs.«01_k».proof.Proof.Loads

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 64) → ℕ)

/-! ## The separating conjunction in any order -/

omit [FloatOps F] in
theorem star_comm (P Q : sProp 𝕄) : iprop(P ∗ Q) = iprop(Q ∗ P) := by
  refine eq_of_entails ?_ ?_ <;> (iintro ⟨H1, H2⟩; isplitl [H2] <;> iassumption)
omit [FloatOps F] in
theorem star_assoc (P Q R : sProp 𝕄) : iprop((P ∗ Q) ∗ R) = iprop(P ∗ Q ∗ R) := by
  refine eq_of_entails ?_ ?_
  · iintro ⟨⟨H1, H2⟩, H3⟩
    isplitl [H1]; · iexact H1
    isplitl [H2] <;> iassumption
  · iintro ⟨H1, H2, H3⟩
    isplitr [H3]
    · isplitl [H1] <;> iassumption
    iexact H3
omit [FloatOps F] in
theorem star_emp (P : sProp 𝕄) : iprop(P ∗ emp) = P := by
  refine eq_of_entails ?_ ?_
  · iintro ⟨H, -⟩; iexact H
  · iintro H; isplitl [H]
    · iexact H
    · iempintro
omit [FloatOps F] in
theorem emp_star (P : sProp 𝕄) : iprop(emp ∗ P) = P := (star_comm _ _).trans (star_emp P)
instance star_commutative : Std.Commutative (α := sProp 𝕄) BIBase.sep := ⟨star_comm⟩
instance star_associative : Std.Associative (α := sProp 𝕄) BIBase.sep := ⟨star_assoc⟩
omit [FloatOps F] in
theorem each_nil (Φ : Fin 16 → sProp 𝕄) : each Φ [] = iprop(emp) := rfl

/-! ## A device's semaphores, by array -/

omit [FloatOps F] in
/-- One resource for each of the 64 semaphores: for each of the four arrays index 0 and the others. -/
theorem bigSep_arrays (Φ : Fin 64 → sProp 𝕄) : bigSep Finset.univ Φ
    = iprop((Φ (xsI 0) ∗ Φ (xrI 0) ∗ Φ (asI 0) ∗ Φ (arI 0))
      ∗ each (fun d => Φ (xsI d)) shifts ∗ each (fun d => Φ (xrI d)) shifts ∗ each (fun d => Φ (asI d)) shifts ∗ each (fun d => Φ (arI d)) shifts) := by
  have hu : (Finset.univ : Finset (Fin 64)) = (Finset.univ.map ⟨xsI, by decide⟩ ∪ Finset.univ.map ⟨xrI, by decide⟩)
      ∪ (Finset.univ.map ⟨asI, by decide⟩ ∪ Finset.univ.map ⟨arI, by decide⟩) := by decide
  rw [hu, bigSep_union (by decide), bigSep_union (by decide), bigSep_union (by decide), bigSep_map, bigSep_map, bigSep_map, bigSep_map,
    bigSep_shifts, bigSep_shifts, bigSep_shifts, bigSep_shifts]
  show iprop(((Φ (xsI 0) ∗ each (fun d => Φ (xsI d)) shifts) ∗ (Φ (xrI 0) ∗ each (fun d => Φ (xrI d)) shifts))
    ∗ ((Φ (asI 0) ∗ each (fun d => Φ (asI d)) shifts) ∗ (Φ (arI 0) ∗ each (fun d => Φ (arI d)) shifts))) = _
  ac_rfl

omit [FloatOps F] in
/-- The shifts negated are the shifts. -/
theorem each_neg (Φ : Fin 16 → sProp 𝕄) : each (fun d => Φ (0 - d)) shifts = each Φ shifts := by
  rw [each_shifts, each_shifts]
  conv_rhs => rw [show (Finset.univ.erase 0 : Finset (Fin 16)) = (Finset.univ.erase 0).map ⟨fun d => 0 - d, by decide⟩ by decide, bigSep_map]
  rfl

theorem add_shift_zero (c : Dev nD) : c + (0 : Fin 16) = c := by revert c; decide

omit [FloatOps F] in
/-- One resource for each block, and the same counted by shifts from `c`. -/
theorem bigSep_from (c : Dev nD) (Φ : Fin 16 → sProp 𝕄) : bigSep Finset.univ Φ = iprop(Φ c ∗ each (fun d => Φ (c + d)) shifts) := by
  have h := bigSep_univ_equiv (Equiv.mk (fun d : Fin 16 => c + d) (fun b => b - c) (by intro d; revert c d; decide) (by intro d; revert c d; decide)) Φ
  refine Eq.trans ?_ ((bigSep_shifts fun d => Φ (c + d)).trans ?_)
  · first | exact h | exact h.symm
  · rw [add_shift_zero]

/-! ## What is held, array by array -/

/-- Duty tokens of a family of cells, positions, credits and counters at zero, for every shift other than 0. -/
def toksOf (g : Fin 16 → GSem nD τ sig) : sProp 𝕄 := each (fun d => dutyTok ER (g d) 0 0) shifts
def posOf (c : Dev nD) (k : Fin 16 → Fin 64) : sProp 𝕄 := each (fun d => atPos ER (ownCell c (k d)) 0 ∅ 0) shifts
def sentOf (c : Dev nD) (k : Fin 16 → Fin 64) (n : ℕ) : sProp 𝕄 := each (Sent c k n) shifts
def zeroOf (c : Dev nD) (k : Fin 16 → Fin 64) : sProp 𝕄 := each (fun d => semVal (ownCell c (k d)) 0) shifts
/-- The counters of index 0 of the four arrays, which the kernel never uses. -/
def zero0 (c : Dev nD) : sProp 𝕄 :=
  iprop(semVal (ownCell c (xsI 0)) 0 ∗ semVal (ownCell c (xrI 0)) 0 ∗ semVal (ownCell c (asI 0)) 0 ∗ semVal (ownCell c (arI 0)) 0)
/-- The rows of the staged `x` that go to the others; the slots and the tiles of the others that the device writes. -/
def xOthers (c : Dev nD) : sProp 𝕄 := each (fun d => xPts m c (c + d)) shifts
def gOthers (c : Dev nD) : sProp 𝕄 := each (fun d => iprop(∃ f, gPts (c + d) d f)) shifts
def aOthers (c : Dev nD) : sProp 𝕄 := each (fun d => iprop(∃ f, aPts (c + d) d fullShare f)) shifts
/-- The own slot and tile of number 0, and the result's buffer, at any contents. -/
def anyG0 (c : Dev nD) : sProp 𝕄 := iprop(∃ f, gPts c 0 f)
def anyA0 (c : Dev nD) : sProp 𝕄 := iprop(∃ f, aPts c 0 fullShare f)
def anyO (c : Dev nD) : sProp 𝕄 := iprop(∃ f, oPts c f)
/-- What came in: the blocks, with their semaphores. -/
def gotX (c : Dev nD) : sProp 𝕄 := each (WDone m c xrI 1) shifts
/-- The received tiles with their semaphores, all but the shares that `aAll` holds. -/
def gotA (c : Dev nD) : sProp 𝕄 := each (Aside m c) shifts
/-- The blocks sent and returned, with their semaphores; -/
def backX (c : Dev nD) : sProp 𝕄 := each (WDone m c xsI 0) shifts
/-- the shares of the own tile lent and returned, with their semaphores. -/
def backA (c : Dev nD) : sProp 𝕄 := each (WDone m c asI 2) shifts

/-! ## The frames of the phases -/

abbrev oX (c : Dev nD) : CellTallies nD τ sig Unit := oweXs c + oweAs c

def Fr0 (c : Dev nD) : sProp 𝕄 :=
  iprop(toksOf (fun d => ownCell c (xsI d)) ∗ toksOf (fun d => ownCell (c + d) (xrI d)) ∗ toksOf (fun d => ownCell c (asI d))
    ∗ toksOf (fun d => ownCell (c + d) (arI d)) ∗ posOf c xsI ∗ posOf c xrI ∗ posOf c asI ∗ posOf c arI ∗ sentOf c xrI Nx ∗ sentOf c arI Na
    ∗ xOthers m c ∗ xPts m c c ∗ wPts m c ∗ anyO c ∗ anyG0 c ∗ anyA0 c ∗ zero0 c)
def Fr1 (c : Dev nD) : sProp 𝕄 :=
  iprop(toksOf (fun d => ownCell c (asI d)) ∗ toksOf (fun d => ownCell (c + d) (arI d)) ∗ aOthers c ∗ posOf c xsI ∗ posOf c xrI ∗ posOf c asI ∗ posOf c arI
    ∗ sentOf c xrI Nx ∗ sentOf c arI Na ∗ anyO c ∗ anyG0 c ∗ anyA0 c ∗ zero0 c ∗ semVal (barCell c) 0)
def Fr2 (c : Dev nD) : sProp 𝕄 :=
  iprop(toksOf (fun d => ownCell c (asI d)) ∗ toksOf (fun d => ownCell (c + d) (arI d)) ∗ aOthers c ∗ posOf c xsI ∗ posOf c asI ∗ posOf c arI
    ∗ sentOf c xsI Nx ∗ sentOf c arI Na ∗ anyO c ∗ anyG0 c ∗ anyA0 c ∗ zero0 c ∗ semVal (barCell c) 0)
def Fr3 (c : Dev nD) : sProp 𝕄 :=
  iprop(toksOf (fun d => ownCell c (asI d)) ∗ toksOf (fun d => ownCell (c + d) (arI d)) ∗ aOthers c ∗ posOf c xsI ∗ posOf c asI ∗ posOf c arI
    ∗ sentOf c xsI Nx ∗ sentOf c arI Na ∗ gotX m c ∗ xPts m c c ∗ wPts m c ∗ anyO c ∗ anyG0 c ∗ zero0 c ∗ semVal (barCell c) 0)
def Fr4 (c : Dev nD) : sProp 𝕄 :=
  iprop(aPts c 0 kept (landA m c) ∗ aPts c 0 (lent 0) (landA m c) ∗ posOf c xsI ∗ posOf c asI ∗ posOf c arI
    ∗ sentOf c xsI Nx ∗ sentOf c arI Na ∗ gotX m c ∗ xPts m c c ∗ wPts m c ∗ anyO c ∗ anyG0 c ∗ zero0 c ∗ semVal (barCell c) 0)
def Fr5 (c : Dev nD) : sProp 𝕄 :=
  iprop(aPts c 0 kept (landA m c) ∗ aPts c 0 (lent 0) (landA m c) ∗ posOf c xsI ∗ posOf c asI
    ∗ sentOf c xsI Nx ∗ sentOf c asI Na ∗ gotX m c ∗ xPts m c c ∗ wPts m c ∗ anyO c ∗ anyG0 c ∗ zero0 c ∗ semVal (barCell c) 0)
def Fr6 (c : Dev nD) : sProp 𝕄 :=
  iprop(aPts c 0 (lent 0) (landA m c) ∗ posOf c xsI ∗ posOf c asI
    ∗ sentOf c xsI Nx ∗ sentOf c asI Na ∗ gotX m c ∗ xPts m c c ∗ wPts m c ∗ anyG0 c ∗ zero0 c ∗ semVal (barCell c) 0)
def Fr7 (c : Dev nD) : sProp 𝕄 :=
  iprop(gotA m c ∗ aAll m c ∗ oPts c (outAt m c) ∗ aPts c 0 (lent 0) (landA m c) ∗ posOf c asI ∗ sentOf c asI Na
    ∗ gotX m c ∗ xPts m c c ∗ wPts m c ∗ anyG0 c ∗ zero0 c ∗ semVal (barCell c) 0)
def Fr8 (c : Dev nD) : sProp 𝕄 :=
  iprop(gotA m c ∗ aAll m c ∗ oPts c (outAt m c) ∗ aPts c 0 (lent 0) (landA m c) ∗ backX m c
    ∗ gotX m c ∗ xPts m c c ∗ wPts m c ∗ anyG0 c ∗ zero0 c ∗ semVal (barCell c) 0)

/-! ## From one phase to the next -/

/-- A list of shifts done with. -/
theorem done_list (c : Dev nD) (f : Fin 16 → CellTallies nD τ sig Unit) (B : CellTallies nD τ sig Unit) (Φ : Fin 16 → sProp 𝕄) (Fr : sProp 𝕄) :
    iprop(Rec m K ∗ owesX c (B + owed f []) ∗ each Φ [] ∗ Fr) = iprop(Rec m K ∗ owesX c B ∗ Fr) := by
  rw [show B + owed f [] = B from add_zero B, each_nil, emp_star]

theorem XTodo_eq (c : Dev nD) : each (XTodo m c) shifts
    = iprop(toksOf (fun d => ownCell c (xsI d)) ∗ toksOf (fun d => ownCell (c + d) (xrI d)) ∗ gOthers c ∗ xOthers m c) := by
  unfold toksOf gOthers xOthers
  rw [← each_sep _ _ shifts (by decide), ← each_sep _ _ shifts (by decide), ← each_sep _ _ shifts (by decide)]; rfl
theorem ATodo_eq (c : Dev nD) : each (ATodo m c) shifts
    = iprop(toksOf (fun d => ownCell c (asI d)) ∗ toksOf (fun d => ownCell (c + d) (arI d)) ∗ aOthers c ∗ each (fun d => aPts c 0 (lent d) (landA m c)) shifts) := by
  unfold toksOf aOthers
  rw [← each_sep _ _ shifts (by decide), ← each_sep _ _ shifts (by decide), ← each_sep _ _ shifts (by decide)]; rfl
omit [FloatOps F] in
theorem WTodo_eq (c : Dev nD) (k : Fin 16 → Fin 64) (n : ℕ) : each (WTodo (F := F) c k n) shifts = iprop(sentOf c k n ∗ posOf c k) := by
  unfold sentOf posOf
  rw [← each_sep _ _ shifts (by decide)]; rfl
omit [FloatOps F] in
theorem landing_eq (c : Dev nD) : each (fun d => landing (F := F) (c + d) d) shifts = iprop(gOthers c ∗ aOthers c) := by
  unfold gOthers aOthers
  rw [← each_sep _ _ shifts (by decide)]; rfl

/-- After the handshake, before the sends of the blocks. -/
theorem to_xsends (c : Dev nD) :
    iprop(Rec m K ∗ owesX c (oX c) ∗ each (fun d => landing (c + d) d) shifts ∗ semVal (barCell c) 0 ∗ Fr0 m c)
      = iprop(Rec m K ∗ owesX c (oweAs c + owed (oweX c) shifts) ∗ each (XTodo m c) shifts ∗ each (Sent c xsI Nx) [] ∗ xPts m c c ∗ wPts m c ∗ Fr1 c) := by
  rw [XTodo_eq, landing_eq, each_nil, emp_star, show oX c = oweAs c + owed (oweX c) shifts from add_comm _ _]
  unfold Fr0 Fr1
  ac_rfl

/-- After the own block's product, before the receipt of the others. -/
theorem to_xrecvs (c : Dev nD) :
    iprop(Rec m K ∗ owesX c (oweAs c + owed (oweX c) []) ∗ each (XTodo m c) [] ∗ each (Sent c xsI Nx) back ∗ xPts m c c ∗ wPts m c ∗ Fr1 c)
      = iprop(Rec m K ∗ owesX c (oweAs c) ∗ each (WTodo c xrI Nx) shifts ∗ each (WDone m c xrI 1) [] ∗ xPts m c c ∗ wPts m c ∗ Fr2 c) := by
  rw [done_list, WTodo_eq, each_nil, emp_star, each_reverse]
  unfold Fr1 Fr2
  rw [show each (Sent (F := F) c xsI Nx) shifts = sentOf c xsI Nx from rfl]
  ac_rfl

/-- After the last product, before the own maximum is stored. -/
theorem to_tile (c : Dev nD) :
    iprop(Rec m K ∗ owesX c (oweAs c) ∗ each (WTodo c xrI Nx) [] ∗ each (WDone m c xrI 1) back ∗ xPts m c c ∗ wPts m c ∗ Fr2 c)
      = iprop(Rec m K ∗ owesX c (oweAs c) ∗ anyA0 c ∗ Fr3 m c) := by
  rw [each_nil, emp_star, each_reverse]
  unfold Fr2 Fr3
  rw [show each (WDone m c xrI 1) shifts = gotX m c from rfl]
  ac_rfl

/-- The own tile shared out for its sends. -/
theorem to_asends (c : Dev nD) :
    iprop(Rec m K ∗ owesX c (oweAs c) ∗ aPts c 0 fullShare (landA m c) ∗ Fr3 m c)
      = iprop(Rec m K ∗ owesX c (0 + owed (oweA c) shifts) ∗ each (ATodo m c) shifts ∗ each (Sent c asI Na) [] ∗ Fr4 m c) := by
  rw [ATodo_eq, each_nil, emp_star, shares_eq, bigSep_shifts, show oweAs c = 0 + owed (oweA c) shifts from (zero_add _).symm]
  unfold Fr3 Fr4
  ac_rfl

/-- Before the receipt of the tiles. -/
theorem to_arecvs (c : Dev nD) :
    iprop(Rec m K ∗ owesX c (0 + owed (oweA c) []) ∗ each (ATodo m c) [] ∗ each (Sent c asI Na) back ∗ Fr4 m c)
      = iprop(Rec m K ∗ owesX c 0 ∗ each (WTodo c arI Na) shifts ∗ each (WDone m c arI 3) [] ∗ Fr5 m c) := by
  rw [done_list, WTodo_eq, each_nil, emp_star, each_reverse]
  unfold Fr4 Fr5
  rw [show each (Sent (F := F) c asI Na) shifts = sentOf c asI Na from rfl]
  ac_rfl

/-- Before all the tiles are read and the result is written. -/
theorem to_result (c : Dev nD) :
    iprop(Rec m K ∗ owesX c 0 ∗ each (WTodo c arI Na) [] ∗ each (WDone m c arI 3) back ∗ Fr5 m c)
      = iprop(Rec m K ∗ owesX c 0 ∗ each (Aside m c) back ∗ aAll m c ∗ anyO c ∗ Fr6 m c) := by
  rw [each_nil, emp_star]
  have h : iprop(each (WDone m c arI 3) back ∗ Fr5 m c)
      = iprop((each (WDone m c arI 3) back ∗ aPts c 0 kept (landA m c)) ∗ anyO c ∗ Fr6 m c) := by
    unfold Fr5 Fr6
    generalize aPts c 0 kept (landA m c) = A
    ac_rfl
  rw [h, aAll_eq]
  ac_rfl

/-- Before the waits for the own sends of the blocks; -/
theorem to_xwaits (c : Dev nD) :
    iprop(Rec m K ∗ owesX c 0 ∗ each (Aside m c) back ∗ aAll m c ∗ oPts c (outAt m c) ∗ Fr6 m c)
      = iprop(Rec m K ∗ owesX c 0 ∗ each (WTodo c xsI Nx) shifts ∗ each (WDone m c xsI 0) [] ∗ Fr7 m c) := by
  rw [WTodo_eq, each_nil, emp_star, each_reverse]
  unfold Fr6 Fr7
  rw [show each (Aside m c) shifts = gotA m c from rfl]
  ac_rfl
/-- and for those of the tile. -/
theorem to_awaits (c : Dev nD) :
    iprop(Rec m K ∗ owesX c 0 ∗ each (WTodo c xsI Nx) [] ∗ each (WDone m c xsI 0) back ∗ Fr7 m c)
      = iprop(Rec m K ∗ owesX c 0 ∗ each (WTodo c asI Na) shifts ∗ each (WDone m c asI 2) [] ∗ Fr8 m c) := by
  rw [WTodo_eq, each_nil, each_nil, emp_star, emp_star, each_reverse]
  unfold Fr7 Fr8
  rw [show each (WDone m c xsI 0) shifts = backX m c from rfl]
  ac_rfl

/-! ## The start and the end -/

/-- The three buffers of a device that the body shares with no other: the staged `x` whole, the landing buffer and the maxima. -/
def xWhole (c : Dev nD) : sProp 𝕄 := ((c : Thread nD τ).loc cc0_stg0_0) ↦[Finset.univ]{fullShare} xstg m c
def anyG (c : Dev nD) : sProp 𝕄 := iprop(∃ f : Buf (Elt F) ((c : Thread nD τ).loc cc0_scratch0), ((c : Thread nD τ).loc cc0_scratch0) ↦[Finset.univ]{fullShare} f)
def anyA (c : Dev nD) : sProp 𝕄 := iprop(∃ f : Buf (Elt F) ((c : Thread nD τ).loc cc0_scratch1), ((c : Thread nD τ).loc cc0_scratch1) ↦[Finset.univ]{fullShare} f)

/-- What the launch gives a device besides its buffers: tokens, positions and credits. -/
def Ghost (c : Dev nD) : sProp 𝕄 :=
  iprop(each (fun d => dutyTok ER (barCell (c + d)) 0 d) shifts
    ∗ toksOf (fun d => ownCell c (xsI d)) ∗ toksOf (fun d => ownCell (c + d) (xrI d)) ∗ toksOf (fun d => ownCell c (asI d))
    ∗ toksOf (fun d => ownCell (c + d) (arI d))
    ∗ atPos ER (barCell c) 0 ∅ 0 ∗ bigSep Finset.univ fun k : Fin 64 => atPos ER (ownCell c k) 0 ∅ 0)
def Creds (c : Dev nD) : sProp 𝕄 := iprop(cred (tallyAt (barCell c) () 15) ∗ sentOf c xrI Nx ∗ sentOf c arI Na)
/-- What the body starts from, -/
def Pre (c : Dev nD) : sProp 𝕄 :=
  iprop(Rec m K ∗ owesX c (O₀ c) ∗ Ghost c ∗ Creds c ∗ xWhole m c ∗ wPts m c ∗ anyO c ∗ anyG c ∗ anyA c)
/-- and what it leaves. -/
def Post (c : Dev nD) : sProp 𝕄 :=
  iprop(owesX c 0 ∗ xWhole m c ∗ wPts m c ∗ oPts c (outAt m c) ∗ anyG c ∗ anyA c
    ∗ (bigSep Finset.univ fun k : Fin 64 => semVal (ownCell c k) 0) ∗ semVal (barCell c) 0)

theorem xWhole_eq (c : Dev nD) : xWhole m c = iprop(xPts m c c ∗ xOthers m c) := by
  unfold xOthers
  rw [← bigSep_from c (fun b => xPts m c b)]
  unfold xWhole xPts
  rw [← xSet_biUnion]
  exact pointsTo_biUnion _ _ xSet_disjoint

omit [FloatOps F] in
theorem gPts_any (c : Dev nD) (d : Fin 16) (f : Buf (Elt F) ((c : Thread nD τ).loc cc0_scratch0)) :
    (((c : Thread nD τ).loc cc0_scratch0) ↦[gSet d]{fullShare} f : sProp 𝕄) ⊢ iprop(∃ f, gPts c d f) := by
  iintro H; iexists f; unfold gPts; iexact H
omit [FloatOps F] in
theorem aPts_any (c : Dev nD) (d : Fin 16) (f : Buf (Elt F) ((c : Thread nD τ).loc cc0_scratch1)) :
    (((c : Thread nD τ).loc cc0_scratch1) ↦[aSet d]{fullShare} f : sProp 𝕄) ⊢ iprop(∃ f, aPts c d fullShare f) := by
  iintro H; iexists f; unfold aPts; iexact H
omit [FloatOps F] in
theorem anyG_split (c : Dev nD) : anyG (F := F) c ⊢ iprop(anyG0 c ∗ each (fun d => iprop(∃ f, gPts c d f)) shifts) := by
  unfold anyG anyG0
  rw [← bigSep_shifts (fun d => iprop(∃ f, gPts (F := F) c d f))]
  iintro ⟨%f, H⟩
  have h : (((c : Thread nD τ).loc cc0_scratch0) ↦[Finset.univ]{fullShare} f : sProp 𝕄) ⊢ bigSep Finset.univ fun d : Fin 16 => iprop(∃ f, gPts c d f) := by
    rw [← gSet_biUnion, pointsTo_biUnion _ _ gSet_disjoint]
    exact bigSep_mono fun d _ => gPts_any c d f
  iapply h
  iexact H
omit [FloatOps F] in
theorem anyA_split (c : Dev nD) : anyA (F := F) c ⊢ iprop(anyA0 c ∗ each (fun d => iprop(∃ f, aPts c d fullShare f)) shifts) := by
  unfold anyA anyA0
  rw [← bigSep_shifts (fun d => iprop(∃ f, aPts (F := F) c d fullShare f))]
  iintro ⟨%f, H⟩
  have h : (((c : Thread nD τ).loc cc0_scratch1) ↦[Finset.univ]{fullShare} f : sProp 𝕄) ⊢ bigSep Finset.univ fun d : Fin 16 => iprop(∃ f, aPts c d fullShare f) := by
    rw [← aSet_biUnion, pointsTo_biUnion _ _ aSet_disjoint]
    exact bigSep_mono fun d _ => aPts_any c d f
  iapply h
  iexact H

omit [FloatOps F] in
theorem SigTodo_eq (c : Dev nD) : each (SigTodo (F := F) c) shifts = iprop(each (fun d => dutyTok ER (barCell (c + d)) 0 d) shifts
    ∗ each (fun d => iprop(∃ f, gPts c d f)) shifts ∗ each (fun d => iprop(∃ f, aPts c d fullShare f)) shifts) := by
  have h : each (fun d => landing (F := F) c (0 - d)) shifts
      = iprop(each (fun d => iprop(∃ f, gPts c d f)) shifts ∗ each (fun d => iprop(∃ f, aPts c d fullShare f)) shifts) := by
    rw [each_neg (fun e => landing c e), ← each_sep _ _ shifts (by decide)]; rfl
  rw [← h, ← each_sep _ _ shifts (by decide)]; rfl

/-- The first state of the body proper. -/
def First (c : Dev nD) : sProp 𝕄 :=
  iprop(Rec m K ∗ owesX c (oX c + owed (oweBar c) shifts) ∗ each (SigTodo c) shifts
    ∗ (cred (tallyAt (barCell c) () 15) ∗ atPos ER (barCell c) 0 ∅ 0) ∗ Fr0 m c)

theorem close_zero (c : Dev nD) (k : Fin 64) (a : Fin 4) (hk : part (.dma (ownS k)) = .own a 0) :
    iprop(Rec m K ∗ atPos ER (ownCell c k) 0 ∅ 0) ⊢ (|={Set.univ}=> semVal (ownCell c k) 0 : sProp 𝕄) := by
  have hd : ∀ r, 0 ≤ r → (Rd (F := F) m).duties (ownCell c k) r = ∅ := fun r _ => by
    rcases Nat.eq_zero_or_pos r with h | h
    · subst h; exact duties_own_zero m c k a hk
    · exact duties_later m _ r h
  iintro ⟨#HR, Hat⟩
  iapply (Rounds.cell_close ER (Rd m) (Set.mem_univ (K (c, some k))) (fun h => h) (R := 0) hd)
  isplitr; · iapply (inv_at m K (c, some k)); iexact HR
  iexact Hat

/-- From what the launch gives to the first state: the buffers taken apart, and the semaphores of index 0 closed at once. -/
theorem start (c : Dev nD) {α : Type} {p : Prog (TpuEff nD τ sig (Elt F) Λ₀ .tc) α} {Q : α → sProp 𝕄}
    (h : First m K c ⊢ Run c p Q) : Pre m K c ⊢ Run c p Q := by
  have h0 : First m K c = iprop(Rec m K ∗ (owesX c (O₀ c) ∗ each (fun d => dutyTok ER (barCell (c + d)) 0 d) shifts
      ∗ (toksOf (fun d => ownCell c (xsI d)) ∗ toksOf (fun d => ownCell (c + d) (xrI d)) ∗ toksOf (fun d => ownCell c (asI d))
        ∗ toksOf (fun d => ownCell (c + d) (arI d)))
      ∗ atPos ER (barCell c) 0 ∅ 0 ∗ (posOf c xsI ∗ posOf c xrI ∗ posOf c asI ∗ posOf c arI) ∗ Creds c ∗ (xPts m c c ∗ xOthers m c)
      ∗ wPts m c ∗ anyO c
      ∗ (anyG0 c ∗ each (fun d => iprop(∃ f, gPts c d f)) shifts) ∗ (anyA0 c ∗ each (fun d => iprop(∃ f, aPts c d fullShare f)) shifts)) ∗ zero0 c) := by
    unfold First Fr0 Creds
    rw [SigTodo_eq, show oX c + owed (oweBar c) shifts = O₀ c from rfl]
    ac_rfl
  rw [h0] at h
  unfold Pre Ghost
  rw [bigSep_arrays, xWhole_eq]
  iintro ⟨#HR, HO, ⟨Ht, Ht1, Ht2, Ht3, Ht4, Hb, ⟨H0, H1, H2, H3⟩, Hp1, Hp2, Hp3, Hp4⟩, Hc, Hx, Hw, Ho, Hg, Ha⟩
  imod (close_zero m K c (xsI 0) 0 (part_xs 0)) $$ [H0] with Hz0
  · isplitr; · iexact HR
    iexact H0
  imod (close_zero m K c (xrI 0) 1 (part_xr 0)) $$ [H1] with Hz1
  · isplitr; · iexact HR
    iexact H1
  imod (close_zero m K c (asI 0) 2 (part_as 0)) $$ [H2] with Hz2
  · isplitr; · iexact HR
    iexact H2
  imod (close_zero m K c (arI 0) 3 (part_ar 0)) $$ [H3] with Hz3
  · isplitr; · iexact HR
    iexact H3
  iapply h
  isplitr; · iexact HR
  isplitr [Hz0 Hz1 Hz2 Hz3]
  · isplitl [HO]; · iexact HO
    isplitl [Ht]; · iexact Ht
    isplitl [Ht1 Ht2 Ht3 Ht4]
    · isplitl [Ht1]; · iexact Ht1
      isplitl [Ht2]; · iexact Ht2
      isplitl [Ht3] <;> iassumption
    isplitl [Hb]; · iexact Hb
    isplitl [Hp1 Hp2 Hp3 Hp4]
    · isplitl [Hp1]; · unfold posOf; iexact Hp1
      isplitl [Hp2]; · unfold posOf; iexact Hp2
      isplitl [Hp3]; · unfold posOf; iexact Hp3
      unfold posOf; iexact Hp4
    isplitl [Hc]; · iexact Hc
    isplitl [Hx]; · iexact Hx
    isplitl [Hw]; · iexact Hw
    isplitl [Ho]; · iexact Ho
    isplitl [Hg]; · iapply (anyG_split c); iexact Hg
    iapply (anyA_split c); iexact Ha
  unfold zero0
  isplitl [Hz0]; · iexact Hz0
  isplitl [Hz1]; · iexact Hz1
  isplitl [Hz2] <;> iassumption

/-- The slots received and the own slot, whatever it holds, are the landing buffer. -/
theorem anyG_join (c : Dev nD) : iprop(each (fun d => gPts c d (landX m c)) shifts ∗ anyG0 c) ⊢ anyG (F := F) c := by
  unfold anyG anyG0
  iintro ⟨Hl, ⟨%f, H⟩⟩
  have he : iprop(each (fun d => gPts c d (landX m c)) shifts ∗ gPts c 0 f)
      = bigSep Finset.univ fun d : Fin 16 => ((c : Thread nD τ).loc cc0_scratch0) ↦[gSet d]{fullShare} (if d = 0 then f else landX m c) := by
    rw [bigSep_shifts, star_comm, if_pos rfl]
    refine congrArg (fun P => iprop(gPts c 0 f ∗ P)) (each_congr fun d hd => ?_)
    rw [if_neg hd]; rfl
  have h : iprop(each (fun d => gPts c d (landX m c)) shifts ∗ gPts c 0 f) ⊢ iprop(∃ g : Buf (Elt F) ((c : Thread nD τ).loc cc0_scratch0),
      ⌜∀ d ∈ (Finset.univ : Finset (Fin 16)), ∀ i ∈ gSet d, g i = (if d = 0 then f else landX m c) i⌝
      ∗ ((c : Thread nD τ).loc cc0_scratch0) ↦[Finset.univ]{fullShare} g) := by
    rw [he, ← gSet_biUnion]
    exact pointsTo_biUnion_join _ _ _ f gSet_disjoint
  ihave H' := h $$ [Hl H]
  · isplitl [Hl] <;> iassumption
  icases H' with ⟨%g, -, H⟩
  iexists g
  iexact H

/-- The tiles received and the own tile are the buffer of the maxima. -/
theorem anyA_join (c : Dev nD) : iprop(each (fun d => aPts c d fullShare (landA m c)) shifts ∗ aPts c 0 fullShare (landA m c)) ⊢ anyA (F := F) c := by
  have h : iprop(each (fun d => aPts c d fullShare (landA m c)) shifts ∗ aPts c 0 fullShare (landA m c))
      = (((c : Thread nD τ).loc cc0_scratch1) ↦[Finset.univ]{fullShare} landA m c : sProp 𝕄) := by
    rw [star_comm, ← bigSep_shifts (fun d => aPts c d fullShare (landA m c))]
    unfold aPts
    rw [← aSet_biUnion]
    exact (pointsTo_biUnion _ _ aSet_disjoint).symm
  rw [h]
  unfold anyA
  iintro H
  iexists landA m c
  iexact H

theorem gotX_eq (c : Dev nD) : gotX m c = iprop(zeroOf c xrI ∗ each (fun d => gPts c d (landX m c)) shifts) := by
  unfold gotX zeroOf
  rw [← each_sep _ _ shifts (by decide)]; rfl
theorem backX_eq (c : Dev nD) : backX m c = iprop(zeroOf c xsI ∗ xOthers m c) := by
  unfold backX zeroOf xOthers
  rw [← each_sep _ _ shifts (by decide)]; rfl
theorem backA_eq (c : Dev nD) : backA m c = iprop(zeroOf c asI ∗ each (fun d => aPts c 0 (lent d) (landA m c)) shifts) := by
  unfold backA zeroOf
  rw [← each_sep _ _ shifts (by decide)]; rfl
theorem gotA_eq (c : Dev nD) : iprop(gotA m c ∗ aAll m c)
    = iprop(zeroOf c arI ∗ each (fun d => aPts c d fullShare (landA m c)) shifts ∗ aPts c 0 kept (landA m c)) := by
  have h := aAll_eq m c
  rw [each_reverse, each_reverse] at h
  unfold gotA
  rw [← h, show each (WDone m c arI 3) shifts = iprop(zeroOf c arI ∗ each (fun d => aPts c d fullShare (landA m c)) shifts) from by
    unfold zeroOf
    rw [← each_sep _ _ shifts (by decide)]; rfl]
  ac_rfl

/-- After the last wait everything is back. -/
theorem finish (c : Dev nD) :
    iprop(Rec m K ∗ owesX c 0 ∗ each (WTodo c asI Na) [] ∗ each (WDone m c asI 2) back ∗ Fr8 m c) ⊢ Post m c := by
  have h : iprop(Rec m K ∗ owesX c 0 ∗ each (WTodo c asI Na) [] ∗ each (WDone m c asI 2) back ∗ Fr8 m c)
      = iprop(Rec m K ∗ owesX c 0 ∗ (xPts m c c ∗ xOthers m c) ∗ wPts m c ∗ oPts c (outAt m c)
        ∗ (each (fun d => gPts c d (landX m c)) shifts ∗ anyG0 c)
        ∗ (each (fun d => aPts c d fullShare (landA m c)) shifts
          ∗ (aPts c 0 kept (landA m c) ∗ aPts c 0 (lent 0) (landA m c) ∗ each (fun d => aPts c 0 (lent d) (landA m c)) shifts))
        ∗ (zero0 c ∗ zeroOf c xsI ∗ zeroOf c xrI ∗ zeroOf c asI ∗ zeroOf c arI) ∗ semVal (barCell c) 0) := by
    rw [each_nil, emp_star, each_reverse]
    unfold Fr8
    rw [show each (WDone m c asI 2) shifts = backA m c from rfl, backA_eq, backX_eq, gotX_eq,
      show iprop(gotA m c ∗ aAll m c ∗ oPts c (outAt m c) ∗ aPts c 0 (lent 0) (landA m c) ∗ (zeroOf c xsI ∗ xOthers m c)
          ∗ (zeroOf c xrI ∗ each (fun d => gPts c d (landX m c)) shifts) ∗ xPts m c c ∗ wPts m c ∗ anyG0 c ∗ zero0 c ∗ semVal (barCell c) 0)
        = iprop((gotA m c ∗ aAll m c) ∗ oPts c (outAt m c) ∗ aPts c 0 (lent 0) (landA m c) ∗ (zeroOf c xsI ∗ xOthers m c)
          ∗ (zeroOf c xrI ∗ each (fun d => gPts c d (landX m c)) shifts) ∗ xPts m c c ∗ wPts m c ∗ anyG0 c ∗ zero0 c ∗ semVal (barCell c) 0) from by ac_rfl,
      gotA_eq]
    generalize aPts c 0 kept (landA m c) = A
    generalize aPts c 0 (lent 0) (landA m c) = B
    ac_rfl
  rw [h, ← xWhole_eq, ← bigSep_shifts (fun d => aPts c 0 (lent d) (landA m c)), ← shares_eq,
    show iprop(zero0 (F := F) c ∗ zeroOf c xsI ∗ zeroOf c xrI ∗ zeroOf c asI ∗ zeroOf c arI)
      = bigSep Finset.univ fun k : Fin 64 => semVal (ownCell c k) 0 from (bigSep_arrays fun k => semVal (ownCell c k) 0).symm]
  unfold Post
  iintro ⟨-, HO, Hx, Hw, Ho, Hg, Ha, Hz, Hb⟩
  isplitl [HO]; · iexact HO
  isplitl [Hx]; · iexact Hx
  isplitl [Hw]; · iexact Hw
  isplitl [Ho]; · iexact Ho
  isplitl [Hg]; · iapply (anyG_join m c); iexact Hg
  isplitl [Ha]; · iapply (anyA_join m c); iexact Ha
  isplitl [Hz] <;> iassumption

end Cert.AllPairs

end
-- ==== Proof.Turns.lean ====
/-
# The steps at the addresses the program writes

The rules of `Steps` and `Loads` speak of devices `c + d`, of block `b` at row `256 b`, of the `d`-th semaphore. Here they are
restated at what the program writes for its `d`-th effect: a device number, an offset and a semaphore worked out from `c` and
from the constant `d`.
-/
module

public import proofs.«01_k».proof.Proof.Phases

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 64) → ℕ)

/-! ## Addresses -/

theorem dev_at (c : Dev nD) (d : Fin 16) {N : ℕ} (hN : N = (c.val + d.val) % 16) (hlt : N < 16) : (⟨N, hlt⟩ : Dev nD) = c + d :=
  Fin.ext hN

/-- Word `d` for a shift `d`. -/
abbrev word (d : Fin 16) : BitVec 32 := BitVec.ofNat 32 d.val

theorem off1_at (c : Dev nD) (d : Fin 16) (hd : d ≠ 0) : k0_off1 c (word d) = ![256 * (c + d).val, 0] := by
  obtain ⟨n, hn⟩ := d
  obtain ⟨r, rfl⟩ : ∃ r, n = 1 + r := ⟨n - 1, by have : n ≠ 0 := fun h => hd (Fin.ext h); omega⟩
  have h := k0_off1_eq c ⟨r, by omega⟩
  rw [show word ⟨1 + r, hn⟩ = BitVec.ofNat 32 (1 + r) from rfl, h]
  have h2 : (c + (⟨1 + r, hn⟩ : Fin 16)).val = (c.val + r + 1) % 16 := by
    show (c.val + (1 + r)) % 16 = _
    congr 1; omega
  rw [h2]
theorem off2_at (c : Dev nD) : k0_off2 c = ![256 * c.val, 0] := k0_off2_eq c
theorem off3_at (c : Dev nD) : k0_off3 c = ![256 * c.val, 0] := k0_off3_eq c
theorem off4_at (c : Dev nD) (d : Fin 16) (hd : d ≠ 0) : k0_off4 c (word d) = ![256 * (c - d).val, 0] := by
  obtain ⟨n, hn⟩ := d
  obtain ⟨r, rfl⟩ : ∃ r, n = 1 + r := ⟨n - 1, by have : n ≠ 0 := fun h => hd (Fin.ext h); omega⟩
  have h := k0_off4_eq c ⟨r, by omega⟩
  rw [show word ⟨1 + r, hn⟩ = BitVec.ofNat 32 (1 + r) from rfl, h]
  have h2 : (c - (⟨1 + r, hn⟩ : Fin 16)).val = (c.val + 15 - r) % 16 := by
    show (16 - (1 + r) + c.val) % 16 = _
    congr 1; omega
  rw [h2]

theorem xs_at (d : Fin 16) (h) : semAt cc0_scratch2 ![d.val] h = ownS (xsI d) :=
  Fin.ext (semAt_consecutive 3 _ d ![d.val] rfl h)
theorem xr_at (d : Fin 16) (h) : semAt cc0_scratch3 ![d.val] h = ownS (xrI d) :=
  Fin.ext ((semAt_consecutive 19 _ d ![d.val] rfl h).trans (by show 19 + d.val = 3 + (16 + d.val); omega))
theorem as_at (d : Fin 16) (h) : semAt cc0_scratch4 ![d.val] h = ownS (asI d) :=
  Fin.ext ((semAt_consecutive 35 _ d ![d.val] rfl h).trans (by show 35 + d.val = 3 + (32 + d.val); omega))
theorem ar_at (d : Fin 16) (h) : semAt cc0_scratch5 ![d.val] h = ownS (arI d) :=
  Fin.ext ((semAt_consecutive 51 _ d ![d.val] rfl h).trans (by show 51 + d.val = 3 + (48 + d.val); omega))

/-! ## The effects in the program's words -/

theorem signal_at (c : Dev nD) (d : Fin 16) (hd : d ≠ 0) {N : ℕ} {hlt : N < 16} (hN : N = (c.val + d.val) % 16) {n : Int} (hn : n = 1)
    {B : CellTallies nD τ sig Unit} {l : List (Fin 16)} {Fr : sProp 𝕄} {α : Type} {Q : α → sProp 𝕄} {k : PUnit → Prog (TpuEff nD τ sig (Elt F) Λ₀ .tc) α}
    (h : iprop(Rec m K ∗ owesX c (B + owed (oweBar c) l) ∗ each (SigTodo c) l ∗ Fr) ⊢ Run c (k ⟨⟩) Q) :
    iprop(Rec m K ∗ owesX c (B + owed (oweBar c) (d :: l)) ∗ each (SigTodo c) (d :: l) ∗ Fr)
      ⊢ Run c (.op (.semSignal ((⟨N, hlt⟩ : Dev nD), .tc) barS n) k) Q := by
  subst hn
  exact step_signal m K c d hd _ (dev_at c d hN hlt) B l Fr h

theorem barrier_at (c : Dev nD) {n : Int} (hn : n = 15) {O : CellTallies nD τ sig Unit} (hO : ∀ g u, 0 < O g u → g.1.2 = .tc ∧ 1 < lv g u)
    {Fr : sProp 𝕄} {α : Type} {Q : α → sProp 𝕄} {k : PUnit → Prog (TpuEff nD τ sig (Elt F) Λ₀ .tc) α}
    (h : iprop(Rec m K ∗ owesX c O ∗ each (fun d => landing (c + d) d) shifts ∗ semVal (barCell c) 0 ∗ Fr) ⊢ Run c (k ⟨⟩) Q) :
    iprop(Rec m K ∗ owesX c O ∗ (cred (tallyAt (barCell c) () 15) ∗ atPos ER (barCell c) 0 ∅ 0) ∗ Fr)
      ⊢ Run c (.op (.semWait barS n) k) Q := by
  subst hn
  exact step_barrier m K c O hO Fr h

theorem xsend_at (c : Dev nD) (d : Fin 16) (hd : d ≠ 0) {N : ℕ} {hlt : N < 16} (hN : N = (c.val + d.val) % 16)
    {hi : ∀ a, k0_off1 c (word d) a + S256x256.size a ≤ S4096x256.size a}
    {hi' : ∀ a, (![d.val, 0, 0] : Fin 3 → Nat) a + S1x256x256.size a ≤ S16x256x256.size a}
    {h2 : ∀ i, (![d.val] : Fin 1 → Nat) i + S1.size i ≤ S16.size i} {h3 : ∀ i, (![d.val] : Fin 1 → Nat) i + S1.size i ≤ S16.size i}
    {hsc : (gSlot ![d.val, 0, 0] hi' : Memref sig (Dev.tc (⟨N, hlt⟩ : Dev nD) : Thread nD τ).2.kind .vmem S256x256 .bf16).view.ref.isScScratch = false}
    {hsrc : (xRows (k0_off1 c (word d)) hi).view.WordExact} {hdst : (gSlot ![d.val, 0, 0] hi').view.WordExact}
    {hsem : DmaTarget.Typed .vmem (.dma (semAt cc0_scratch3 ![d.val] h3))
      (.remote (Dev.tc (⟨N, hlt⟩ : Dev nD) : Thread nD τ) (gSlot ![d.val, 0, 0] hi') (.dma (semAt cc0_scratch2 ![d.val] h2)) hsc)}
    {B : CellTallies nD τ sig Unit} {l dn : List (Fin 16)} {Fr : sProp 𝕄} {α : Type} {Q : α → sProp 𝕄} {k : PUnit → Prog (TpuEff nD τ sig (Elt F) Λ₀ .tc) α}
    (h : iprop(Rec m K ∗ owesX c (B + owed (oweX c) l) ∗ each (XTodo m c) l ∗ each (Sent c xsI Nx) (d :: dn) ∗ Fr) ⊢ Run c (k ⟨⟩) Q) :
    iprop(Rec m K ∗ owesX c (B + owed (oweX c) (d :: l)) ∗ each (XTodo m c) (d :: l) ∗ each (Sent c xsI Nx) dn ∗ Fr)
      ⊢ Run c (.op (.enqueueDma (xRows (k0_off1 c (word d)) hi) (.remote (Dev.tc (⟨N, hlt⟩ : Dev nD) : Thread nD τ) (gSlot ![d.val, 0, 0] hi')
        (.dma (semAt cc0_scratch2 ![d.val] h2)) hsc) (.dma (semAt cc0_scratch3 ![d.val] h3)) hsrc hdst hsem) k) Q :=
  step_xsend m K c d hd _ (dev_at c d hN hlt) _ (off1_at c d hd) hi _ rfl hi' _ _ (xs_at d h2) (xr_at d h3) B l dn Fr h

theorem asend_at (c : Dev nD) (d : Fin 16) (hd : d ≠ 0) {N : ℕ} {hlt : N < 16} (hN : N = (c.val + d.val) % 16)
    {hi : ∀ a, (![0, 0, 0] : Fin 3 → Nat) a + S1x8x128.size a ≤ S16x8x128.size a}
    {hi' : ∀ a, (![d.val, 0, 0] : Fin 3 → Nat) a + S1x8x128.size a ≤ S16x8x128.size a}
    {h2 : ∀ i, (![d.val] : Fin 1 → Nat) i + S1.size i ≤ S16.size i} {h3 : ∀ i, (![d.val] : Fin 1 → Nat) i + S1.size i ≤ S16.size i}
    {hsc : (aSlot ![d.val, 0, 0] hi' : Memref sig (Dev.tc (⟨N, hlt⟩ : Dev nD) : Thread nD τ).2.kind .vmem S8x128 .f32).view.ref.isScScratch = false}
    {hsrc : (aSlot ![0, 0, 0] hi).view.WordExact} {hdst : (aSlot ![d.val, 0, 0] hi').view.WordExact}
    {hsem : DmaTarget.Typed .vmem (.dma (semAt cc0_scratch5 ![d.val] h3))
      (.remote (Dev.tc (⟨N, hlt⟩ : Dev nD) : Thread nD τ) (aSlot ![d.val, 0, 0] hi') (.dma (semAt cc0_scratch4 ![d.val] h2)) hsc)}
    {B : CellTallies nD τ sig Unit} {l dn : List (Fin 16)} {Fr : sProp 𝕄} {α : Type} {Q : α → sProp 𝕄} {k : PUnit → Prog (TpuEff nD τ sig (Elt F) Λ₀ .tc) α}
    (h : iprop(Rec m K ∗ owesX c (B + owed (oweA c) l) ∗ each (ATodo m c) l ∗ each (Sent c asI Na) (d :: dn) ∗ Fr) ⊢ Run c (k ⟨⟩) Q) :
    iprop(Rec m K ∗ owesX c (B + owed (oweA c) (d :: l)) ∗ each (ATodo m c) (d :: l) ∗ each (Sent c asI Na) dn ∗ Fr)
      ⊢ Run c (.op (.enqueueDma (aSlot ![0, 0, 0] hi) (.remote (Dev.tc (⟨N, hlt⟩ : Dev nD) : Thread nD τ) (aSlot ![d.val, 0, 0] hi')
        (.dma (semAt cc0_scratch4 ![d.val] h2)) hsc) (.dma (semAt cc0_scratch5 ![d.val] h3)) hsrc hdst hsem) k) Q :=
  step_asend m K c d hd _ (dev_at c d hN hlt) _ rfl hi _ rfl hi' _ _ (as_at d h2) (ar_at d h3) B l dn Fr h

/-- The wait for block `d` to arrive, while the tiles are still owed. -/
theorem xrecv_at (c : Dev nD) (d : Fin 16) (hd : d ≠ 0) {h3 : ∀ i, (![d.val] : Fin 1 → Nat) i + S1.size i ≤ S16.size i}
    {hi' : ∀ a, (![d.val, 0, 0] : Fin 3 → Nat) a + S1x256x256.size a ≤ S16x256x256.size a}
    {sp : Space} {s : Shape} {e : EltTy} {src : Memref sig .tc sp s e} {hsrc : src.view.WordExact} {hdst : (gSlot ![d.val, 0, 0] hi').view.WordExact}
    {l dn : List (Fin 16)} {Fr : sProp 𝕄} {α : Type} {Q : α → sProp 𝕄} {k : PUnit → Prog (TpuEff nD τ sig (Elt F) Λ₀ .tc) α}
    (h : iprop(Rec m K ∗ owesX c (oweAs c) ∗ each (WTodo c xrI Nx) l ∗ each (WDone m c xrI 1) (d :: dn) ∗ Fr) ⊢ Run c (k ⟨⟩) Q) :
    iprop(Rec m K ∗ owesX c (oweAs c) ∗ each (WTodo c xrI Nx) (d :: l) ∗ each (WDone m c xrI 1) dn ∗ Fr)
      ⊢ Run c (.op (.waitDma2 (semAt cc0_scratch3 ![d.val] h3) src (gSlot ![d.val, 0, 0] hi') hsrc hdst) k) Q :=
  step_wait m K c xrI 1 part_xr Nx rfl (oweAs c) (fun g u hg => by
    have h := oweAs_lev hg
    exact ⟨h.1, by rw [h.2]; decide⟩) d hd _ (xr_at d h3) (gSlot_credit _ hi') l dn Fr h

/-- The wait for tile `d` to arrive. -/
theorem arecv_at (c : Dev nD) (d : Fin 16) (hd : d ≠ 0) {h3 : ∀ i, (![d.val] : Fin 1 → Nat) i + S1.size i ≤ S16.size i}
    {hi' : ∀ a, (![d.val, 0, 0] : Fin 3 → Nat) a + S1x8x128.size a ≤ S16x8x128.size a}
    {sp : Space} {s : Shape} {e : EltTy} {src : Memref sig .tc sp s e} {hsrc : src.view.WordExact} {hdst : (aSlot ![d.val, 0, 0] hi').view.WordExact}
    {l dn : List (Fin 16)} {Fr : sProp 𝕄} {α : Type} {Q : α → sProp 𝕄} {k : PUnit → Prog (TpuEff nD τ sig (Elt F) Λ₀ .tc) α}
    (h : iprop(Rec m K ∗ owesX c 0 ∗ each (WTodo c arI Na) l ∗ each (WDone m c arI 3) (d :: dn) ∗ Fr) ⊢ Run c (k ⟨⟩) Q) :
    iprop(Rec m K ∗ owesX c 0 ∗ each (WTodo c arI Na) (d :: l) ∗ each (WDone m c arI 3) dn ∗ Fr)
      ⊢ Run c (.op (.waitDma2 (semAt cc0_scratch5 ![d.val] h3) src (aSlot ![d.val, 0, 0] hi') hsrc hdst) k) Q :=
  step_wait m K c arI 3 part_ar Na rfl 0 (fun g u hg => absurd hg (Nat.lt_irrefl 0)) d hd _ (ar_at d h3) (aSlot_credit _ hi') l dn Fr h

/-- The wait for the own send of block `d` to be done, -/
theorem xwait_at (c : Dev nD) (d : Fin 16) (hd : d ≠ 0) {h3 : ∀ i, (![d.val] : Fin 1 → Nat) i + S1.size i ≤ S16.size i}
    {off : Fin 2 → Nat} {hi' : ∀ a, off a + S256x256.size a ≤ S4096x256.size a}
    {sp : Space} {s : Shape} {e : EltTy} {src : Memref sig .tc sp s e} {hsrc : src.view.WordExact} {hdst : (xRows off hi').view.WordExact}
    {l dn : List (Fin 16)} {Fr : sProp 𝕄} {α : Type} {Q : α → sProp 𝕄} {k : PUnit → Prog (TpuEff nD τ sig (Elt F) Λ₀ .tc) α}
    (h : iprop(Rec m K ∗ owesX c 0 ∗ each (WTodo c xsI Nx) l ∗ each (WDone m c xsI 0) (d :: dn) ∗ Fr) ⊢ Run c (k ⟨⟩) Q) :
    iprop(Rec m K ∗ owesX c 0 ∗ each (WTodo c xsI Nx) (d :: l) ∗ each (WDone m c xsI 0) dn ∗ Fr)
      ⊢ Run c (.op (.waitDma2 (semAt cc0_scratch2 ![d.val] h3) src (xRows off hi') hsrc hdst) k) Q :=
  step_wait m K c xsI 0 part_xs Nx rfl 0 (fun g u hg => absurd hg (Nat.lt_irrefl 0)) d hd _ (xs_at d h3) (xRows_credit _ hi') l dn Fr h

/-- and that of the tile to device `c + d`. -/
theorem await_at (c : Dev nD) (d : Fin 16) (hd : d ≠ 0) {h3 : ∀ i, (![d.val] : Fin 1 → Nat) i + S1.size i ≤ S16.size i}
    {off : Fin 3 → Nat} {hi' : ∀ a, off a + S1x8x128.size a ≤ S16x8x128.size a}
    {sp : Space} {s : Shape} {e : EltTy} {src : Memref sig .tc sp s e} {hsrc : src.view.WordExact} {hdst : (aSlot off hi').view.WordExact}
    {l dn : List (Fin 16)} {Fr : sProp 𝕄} {α : Type} {Q : α → sProp 𝕄} {k : PUnit → Prog (TpuEff nD τ sig (Elt F) Λ₀ .tc) α}
    (h : iprop(Rec m K ∗ owesX c 0 ∗ each (WTodo c asI Na) l ∗ each (WDone m c asI 2) (d :: dn) ∗ Fr) ⊢ Run c (k ⟨⟩) Q) :
    iprop(Rec m K ∗ owesX c 0 ∗ each (WTodo c asI Na) (d :: l) ∗ each (WDone m c asI 2) dn ∗ Fr)
      ⊢ Run c (.op (.waitDma2 (semAt cc0_scratch4 ![d.val] h3) src (aSlot off hi') hsrc hdst) k) Q :=
  step_wait m K c asI 2 part_as Na rfl 0 (fun g u hg => absurd hg (Nat.lt_irrefl 0)) d hd _ (as_at d h3) (aSlot_credit _ hi') l dn Fr h

/-- The block just arrived, read, -/
theorem load_slot_at (c : Dev nD) (d : Fin 16) {hi : ∀ a, (![d.val, 0, 0] : Fin 3 → Nat) a + S1x256x256.size a ≤ S16x256x256.size a}
    {hl : gM.view.LoadsAt (Rect.unit (s := S16x256x256) ![d.val, 0, 0] S1x256x256.size hi).toLoadRect}
    {A B C Fr : sProp 𝕄} {dn : List (Fin 16)} {α : Type} {Q : α → sProp 𝕄} {k : Vec F S1x256x256 .bf16 → Prog (TpuEff nD τ sig (Elt F) Λ₀ .tc) α}
    (h : iprop(A ∗ B ∗ C ∗ each (WDone m c xrI 1) (d :: dn) ∗ Fr) ⊢ Run c (k (gBlk m c d)) Q) :
    iprop(A ∗ B ∗ C ∗ each (WDone m c xrI 1) (d :: dn) ∗ Fr)
      ⊢ Run c (.op (.load gM (Rect.unit (s := S16x256x256) ![d.val, 0, 0] S1x256x256.size hi).toLoadRect hl) k) Q :=
  step_load_g m c d _ rfl hi A B C Fr dn h

/-- and the rows of `w` that go with it. -/
theorem load_rows_at (c : Dev nD) (d : Fin 16) (hd : d ≠ 0) {hi : ∀ a, k0_off4 c (word d) a + S256x8192.size a ≤ S4096x8192.size a}
    {hl : wM.view.LoadsAt (Rect.unit (s := S4096x8192) (k0_off4 c (word d)) S256x8192.size hi).toLoadRect}
    {A B C D Fr : sProp 𝕄} {dn : List (Fin 16)} {α : Type} {Q : α → sProp 𝕄} {k : Vec F S256x8192 .bf16 → Prog (TpuEff nD τ sig (Elt F) Λ₀ .tc) α}
    (h : iprop(A ∗ B ∗ C ∗ each (WDone m c xrI 1) (d :: dn) ∗ D ∗ wPts m c ∗ Fr) ⊢ Run c (k (wFor m c d)) Q) :
    iprop(A ∗ B ∗ C ∗ each (WDone m c xrI 1) (d :: dn) ∗ D ∗ wPts m c ∗ Fr)
      ⊢ Run c (.op (.load wM (Rect.unit (s := S4096x8192) (k0_off4 c (word d)) S256x8192.size hi).toLoadRect hl) k) Q :=
  step_load_w m c (c - d) _ (off4_at c d hd) hi A B C _ D Fr h

end Cert.AllPairs

end
-- ==== Proof.Body.lean ====
/-
# The body of a device

One run of the kernel's body on device `c`, an effect a line, in the order of the program: from what the launch gives to
what is left when the last wait is over, for any float values.
-/
module

public import proofs.«01_k».proof.Proof.Turns

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 64) → ℕ)

theorem run_ret (c : Dev nD) {Q : PUnit → sProp 𝕄} : Q ⟨⟩ ⊢ Run c (.ret ⟨⟩) Q := by
  unfold Run; rw [wp_ret]
  iintro H; imodintro; iexact H

set_option maxRecDepth 20000 in
set_option maxHeartbeats 4000000 in
theorem body_from_first (c : Dev nD) (hx : xM.IsWhole) (hw : wM.IsWhole) (ho : oM.IsWhole) (hg : gM.IsWhole) (ha : aM.IsWhole) (Q : PUnit → sProp 𝕄)
    (h : Post m c ⊢ Q ⟨⟩) :
    First m K c ⊢ Run c (cc0_body (F := F) xM hx wM hw oM ho gM hg aM ha cc0_scratch2 cc0_scratch3 cc0_scratch4 cc0_scratch5) Q := by
  unfold First
  rw [cc0_body_eq_skeleton]; unfold cc0_body_skel
  rw [k0_part37_eq_skeleton]; unfold k0_part37_skel
  simp only [Prog.bind_assoc, Prog.lift, Prog.bind_op, Prog.bind_ret, Prog.pure_eq_ret]
  rw [k0_part1_eq_skeleton]; unfold k0_part1_skel
  simp only [semSignalWord, semWaitWord, Prog.lift, Prog.bind_op, Prog.bind_ret, Prog.pure_eq_ret, wp_deviceId]
  refine signal_at m K c 1 (by decide) (k0_dev1_eq c) (by decide) ?_
  refine signal_at m K c 2 (by decide) (k0_dev2_eq c) (by decide) ?_
  refine signal_at m K c 3 (by decide) (k0_dev3_eq c) (by decide) ?_
  refine signal_at m K c 4 (by decide) (k0_dev4_eq c) (by decide) ?_
  refine signal_at m K c 5 (by decide) (k0_dev5_eq c) (by decide) ?_
  rw [k0_part2_eq_skeleton]; unfold k0_part2_skel
  simp only [semSignalWord, semWaitWord, Prog.lift, Prog.bind_op, Prog.bind_ret, Prog.pure_eq_ret]
  refine signal_at m K c 6 (by decide) (k0_dev6_eq c) (by decide) ?_
  refine signal_at m K c 7 (by decide) (k0_dev7_eq c) (by decide) ?_
  refine signal_at m K c 8 (by decide) (k0_dev8_eq c) (by decide) ?_
  refine signal_at m K c 9 (by decide) (k0_dev9_eq c) (by decide) ?_
  refine signal_at m K c 10 (by decide) (k0_dev10_eq c) (by decide) ?_
  refine signal_at m K c 11 (by decide) (k0_dev11_eq c) (by decide) ?_
  rw [k0_part3_eq_skeleton]; unfold k0_part3_skel
  simp only [semSignalWord, semWaitWord, Prog.lift, Prog.bind_op, Prog.bind_ret, Prog.pure_eq_ret]
  refine signal_at m K c 12 (by decide) (k0_dev12_eq c) (by decide) ?_
  refine signal_at m K c 13 (by decide) (k0_dev13_eq c) (by decide) ?_
  refine signal_at m K c 14 (by decide) (k0_dev14_eq c) (by decide) ?_
  refine signal_at m K c 15 (by decide) (k0_dev15_eq c) (by decide) ?_
  rw [done_list]
  refine barrier_at m K c (by decide) (fun g u => oweXA_lev) ?_
  rw [to_xsends]
  rw [k0_part4_eq_skeleton]; unfold k0_part4_skel
  simp only [semSignalWord, semWaitWord, Prog.lift, Prog.bind_op, Prog.bind_ret, Prog.pure_eq_ret]
  refine xsend_at m K c 1 (by decide) (k0_dev16_eq c) ?_
  refine xsend_at m K c 2 (by decide) (k0_dev17_eq c) ?_
  refine xsend_at m K c 3 (by decide) (k0_dev18_eq c) ?_
  rw [k0_part5_eq_skeleton]; unfold k0_part5_skel
  simp only [semSignalWord, semWaitWord, Prog.lift, Prog.bind_op, Prog.bind_ret, Prog.pure_eq_ret]
  refine xsend_at m K c 4 (by decide) (k0_dev19_eq c) ?_
  refine xsend_at m K c 5 (by decide) (k0_dev20_eq c) ?_
  rw [k0_part6_eq_skeleton]; unfold k0_part6_skel
  simp only [semSignalWord, semWaitWord, Prog.lift, Prog.bind_op, Prog.bind_ret, Prog.pure_eq_ret]
  refine xsend_at m K c 6 (by decide) (k0_dev21_eq c) ?_
  refine xsend_at m K c 7 (by decide) (k0_dev22_eq c) ?_
  refine xsend_at m K c 8 (by decide) (k0_dev23_eq c) ?_
  rw [k0_part7_eq_skeleton]; unfold k0_part7_skel
  simp only [semSignalWord, semWaitWord, Prog.lift, Prog.bind_op, Prog.bind_ret, Prog.pure_eq_ret]
  refine xsend_at m K c 9 (by decide) (k0_dev24_eq c) ?_
  refine xsend_at m K c 10 (by decide) (k0_dev25_eq c) ?_
  rw [k0_part8_eq_skeleton]; unfold k0_part8_skel
  simp only [semSignalWord, semWaitWord, Prog.lift, Prog.bind_op, Prog.bind_ret, Prog.pure_eq_ret]
  refine xsend_at m K c 11 (by decide) (k0_dev26_eq c) ?_
  refine xsend_at m K c 12 (by decide) (k0_dev27_eq c) ?_
  refine xsend_at m K c 13 (by decide) (k0_dev28_eq c) ?_
  rw [k0_part9_eq_skeleton]; unfold k0_part9_skel
  simp only [semSignalWord, semWaitWord, Prog.lift, Prog.bind_op, Prog.bind_ret, Prog.pure_eq_ret]
  refine xsend_at m K c 14 (by decide) (k0_dev29_eq c) ?_
  refine xsend_at m K c 15 (by decide) (k0_dev30_eq c) ?_
  refine step_load_x m c c _ (off2_at c) _ _ _ _ _ _ ?_
  refine step_load_w m c c _ (off3_at c) _ _ _ _ _ _ _ ?_
  rw [to_xrecvs]
  rw [k0_part10_eq_skeleton]; unfold k0_part10_skel
  simp only [semSignalWord, semWaitWord, Prog.lift, Prog.bind_op, Prog.bind_ret, Prog.pure_eq_ret]
  refine xrecv_at m K c 1 (by decide) ?_
  refine load_slot_at m c 1 ?_
  refine load_rows_at m c 1 (by decide) ?_
  refine xrecv_at m K c 2 (by decide) ?_
  refine load_slot_at m c 2 ?_
  rw [k0_part11_eq_skeleton]; unfold k0_part11_skel
  simp only [semSignalWord, semWaitWord, Prog.lift, Prog.bind_op, Prog.bind_ret, Prog.pure_eq_ret]
  refine load_rows_at m c 2 (by decide) ?_
  refine xrecv_at m K c 3 (by decide) ?_
  refine load_slot_at m c 3 ?_
  refine load_rows_at m c 3 (by decide) ?_
  refine xrecv_at m K c 4 (by decide) ?_
  rw [k0_part12_eq_skeleton]; unfold k0_part12_skel
  simp only [semSignalWord, semWaitWord, Prog.lift, Prog.bind_op, Prog.bind_ret, Prog.pure_eq_ret]
  refine load_slot_at m c 4 ?_
  refine load_rows_at m c 4 (by decide) ?_
  refine xrecv_at m K c 5 (by decide) ?_
  refine load_slot_at m c 5 ?_
  refine load_rows_at m c 5 (by decide) ?_
  rw [k0_part13_eq_skeleton]; unfold k0_part13_skel
  simp only [semSignalWord, semWaitWord, Prog.lift, Prog.bind_op, Prog.bind_ret, Prog.pure_eq_ret]
  refine xrecv_at m K c 6 (by decide) ?_
  refine load_slot_at m c 6 ?_
  refine load_rows_at m c 6 (by decide) ?_
  refine xrecv_at m K c 7 (by decide) ?_
  refine load_slot_at m c 7 ?_
  rw [k0_part14_eq_skeleton]; unfold k0_part14_skel
  simp only [semSignalWord, semWaitWord, Prog.lift, Prog.bind_op, Prog.bind_ret, Prog.pure_eq_ret]
  refine load_rows_at m c 7 (by decide) ?_
  refine xrecv_at m K c 8 (by decide) ?_
  refine load_slot_at m c 8 ?_
  refine load_rows_at m c 8 (by decide) ?_
  refine xrecv_at m K c 9 (by decide) ?_
  rw [k0_part15_eq_skeleton]; unfold k0_part15_skel
  simp only [semSignalWord, semWaitWord, Prog.lift, Prog.bind_op, Prog.bind_ret, Prog.pure_eq_ret]
  refine load_slot_at m c 9 ?_
  refine load_rows_at m c 9 (by decide) ?_
  refine xrecv_at m K c 10 (by decide) ?_
  refine load_slot_at m c 10 ?_
  refine load_rows_at m c 10 (by decide) ?_
  rw [k0_part16_eq_skeleton]; unfold k0_part16_skel
  simp only [semSignalWord, semWaitWord, Prog.lift, Prog.bind_op, Prog.bind_ret, Prog.pure_eq_ret]
  refine xrecv_at m K c 11 (by decide) ?_
  refine load_slot_at m c 11 ?_
  refine load_rows_at m c 11 (by decide) ?_
  refine xrecv_at m K c 12 (by decide) ?_
  refine load_slot_at m c 12 ?_
  rw [k0_part17_eq_skeleton]; unfold k0_part17_skel
  simp only [semSignalWord, semWaitWord, Prog.lift, Prog.bind_op, Prog.bind_ret, Prog.pure_eq_ret]
  refine load_rows_at m c 12 (by decide) ?_
  refine xrecv_at m K c 13 (by decide) ?_
  refine load_slot_at m c 13 ?_
  refine load_rows_at m c 13 (by decide) ?_
  refine xrecv_at m K c 14 (by decide) ?_
  rw [k0_part18_eq_skeleton]; unfold k0_part18_skel
  simp only [semSignalWord, semWaitWord, Prog.lift, Prog.bind_op, Prog.bind_ret, Prog.pure_eq_ret]
  refine load_slot_at m c 14 ?_
  refine load_rows_at m c 14 (by decide) ?_
  refine xrecv_at m K c 15 (by decide) ?_
  refine load_slot_at m c 15 ?_
  refine load_rows_at m c 15 (by decide) ?_
  rw [to_tile]
  rw [k0_part19_eq_skeleton]; unfold k0_part19_skel
  simp only [semSignalWord, semWaitWord, Prog.lift, Prog.bind_op, Prog.bind_ret, Prog.pure_eq_ret]
  refine step_load_a c _ _ _ _ fun _ => ?_
  refine step_store_a m c _ _ _ _ _ rfl ?_
  rw [to_asends]
  refine asend_at m K c 1 (by decide) (k0_dev31_eq c) ?_
  refine asend_at m K c 2 (by decide) (k0_dev32_eq c) ?_
  rw [k0_part20_eq_skeleton]; unfold k0_part20_skel
  simp only [semSignalWord, semWaitWord, Prog.lift, Prog.bind_op, Prog.bind_ret, Prog.pure_eq_ret]
  refine asend_at m K c 3 (by decide) (k0_dev33_eq c) ?_
  refine asend_at m K c 4 (by decide) (k0_dev34_eq c) ?_
  rw [k0_part21_eq_skeleton]; unfold k0_part21_skel
  simp only [semSignalWord, semWaitWord, Prog.lift, Prog.bind_op, Prog.bind_ret, Prog.pure_eq_ret]
  refine asend_at m K c 5 (by decide) (k0_dev35_eq c) ?_
  refine asend_at m K c 6 (by decide) (k0_dev36_eq c) ?_
  rw [k0_part22_eq_skeleton]; unfold k0_part22_skel
  simp only [semSignalWord, semWaitWord, Prog.lift, Prog.bind_op, Prog.bind_ret, Prog.pure_eq_ret]
  refine asend_at m K c 7 (by decide) (k0_dev37_eq c) ?_
  refine asend_at m K c 8 (by decide) (k0_dev38_eq c) ?_
  refine asend_at m K c 9 (by decide) (k0_dev39_eq c) ?_
  rw [k0_part23_eq_skeleton]; unfold k0_part23_skel
  simp only [semSignalWord, semWaitWord, Prog.lift, Prog.bind_op, Prog.bind_ret, Prog.pure_eq_ret]
  refine asend_at m K c 10 (by decide) (k0_dev40_eq c) ?_
  refine asend_at m K c 11 (by decide) (k0_dev41_eq c) ?_
  rw [k0_part24_eq_skeleton]; unfold k0_part24_skel
  simp only [semSignalWord, semWaitWord, Prog.lift, Prog.bind_op, Prog.bind_ret, Prog.pure_eq_ret]
  refine asend_at m K c 12 (by decide) (k0_dev42_eq c) ?_
  refine asend_at m K c 13 (by decide) (k0_dev43_eq c) ?_
  refine asend_at m K c 14 (by decide) (k0_dev44_eq c) ?_
  rw [k0_part25_eq_skeleton]; unfold k0_part25_skel
  simp only [semSignalWord, semWaitWord, Prog.lift, Prog.bind_op, Prog.bind_ret, Prog.pure_eq_ret]
  refine asend_at m K c 15 (by decide) (k0_dev45_eq c) ?_
  rw [to_arecvs]
  refine arecv_at m K c 1 (by decide) ?_
  rw [k0_part26_eq_skeleton]; unfold k0_part26_skel
  simp only [semSignalWord, semWaitWord, Prog.lift, Prog.bind_op, Prog.bind_ret, Prog.pure_eq_ret]
  refine arecv_at m K c 2 (by decide) ?_
  refine arecv_at m K c 3 (by decide) ?_
  refine arecv_at m K c 4 (by decide) ?_
  refine arecv_at m K c 5 (by decide) ?_
  rw [k0_part27_eq_skeleton]; unfold k0_part27_skel
  simp only [semSignalWord, semWaitWord, Prog.lift, Prog.bind_op, Prog.bind_ret, Prog.pure_eq_ret]
  refine arecv_at m K c 6 (by decide) ?_
  refine arecv_at m K c 7 (by decide) ?_
  refine arecv_at m K c 8 (by decide) ?_
  rw [k0_part28_eq_skeleton]; unfold k0_part28_skel
  simp only [semSignalWord, semWaitWord, Prog.lift, Prog.bind_op, Prog.bind_ret, Prog.pure_eq_ret]
  refine arecv_at m K c 9 (by decide) ?_
  refine arecv_at m K c 10 (by decide) ?_
  refine arecv_at m K c 11 (by decide) ?_
  rw [k0_part29_eq_skeleton]; unfold k0_part29_skel
  simp only [semSignalWord, semWaitWord, Prog.lift, Prog.bind_op, Prog.bind_ret, Prog.pure_eq_ret]
  refine arecv_at m K c 12 (by decide) ?_
  refine arecv_at m K c 13 (by decide) ?_
  refine arecv_at m K c 14 (by decide) ?_
  rw [k0_part30_eq_skeleton]; unfold k0_part30_skel
  simp only [semSignalWord, semWaitWord, Prog.lift, Prog.bind_op, Prog.bind_ret, Prog.pure_eq_ret]
  refine arecv_at m K c 15 (by decide) ?_
  rw [to_result]
  refine step_load_all m c _ _ _ _ _ ?_
  refine step_load_o c _ _ _ _ _ _ fun _ => ?_
  refine step_store_o c _ _ _ _ _ _ _ ?_
  refine (Entails.of_eq (to_xwaits m K c)).trans ?_
  refine xwait_at m K c 1 (by decide) ?_
  rw [k0_part31_eq_skeleton]; unfold k0_part31_skel
  simp only [semSignalWord, semWaitWord, Prog.lift, Prog.bind_op, Prog.bind_ret, Prog.pure_eq_ret]
  refine xwait_at m K c 2 (by decide) ?_
  refine xwait_at m K c 3 (by decide) ?_
  refine xwait_at m K c 4 (by decide) ?_
  refine xwait_at m K c 5 (by decide) ?_
  refine xwait_at m K c 6 (by decide) ?_
  rw [k0_part32_eq_skeleton]; unfold k0_part32_skel
  simp only [semSignalWord, semWaitWord, Prog.lift, Prog.bind_op, Prog.bind_ret, Prog.pure_eq_ret]
  refine xwait_at m K c 7 (by decide) ?_
  refine xwait_at m K c 8 (by decide) ?_
  refine xwait_at m K c 9 (by decide) ?_
  refine xwait_at m K c 10 (by decide) ?_
  refine xwait_at m K c 11 (by decide) ?_
  rw [k0_part33_eq_skeleton]; unfold k0_part33_skel
  simp only [semSignalWord, semWaitWord, Prog.lift, Prog.bind_op, Prog.bind_ret, Prog.pure_eq_ret]
  refine xwait_at m K c 12 (by decide) ?_
  refine xwait_at m K c 13 (by decide) ?_
  refine xwait_at m K c 14 (by decide) ?_
  refine xwait_at m K c 15 (by decide) ?_
  rw [k0_part34_eq_skeleton]; unfold k0_part34_skel
  simp only [semSignalWord, semWaitWord, Prog.lift, Prog.bind_op, Prog.bind_ret, Prog.pure_eq_ret]
  rw [to_awaits]
  refine await_at m K c 1 (by decide) ?_
  refine await_at m K c 2 (by decide) ?_
  refine await_at m K c 3 (by decide) ?_
  refine await_at m K c 4 (by decide) ?_
  rw [k0_part35_eq_skeleton]; unfold k0_part35_skel
  simp only [semSignalWord, semWaitWord, Prog.lift, Prog.bind_op, Prog.bind_ret, Prog.pure_eq_ret]
  refine await_at m K c 5 (by decide) ?_
  refine await_at m K c 6 (by decide) ?_
  refine await_at m K c 7 (by decide) ?_
  refine await_at m K c 8 (by decide) ?_
  rw [k0_part36_eq_skeleton]; unfold k0_part36_skel
  simp only [semSignalWord, semWaitWord, Prog.lift, Prog.bind_op, Prog.bind_ret, Prog.pure_eq_ret]
  refine await_at m K c 9 (by decide) ?_
  refine await_at m K c 10 (by decide) ?_
  refine await_at m K c 11 (by decide) ?_
  refine await_at m K c 12 (by decide) ?_
  refine await_at m K c 13 (by decide) ?_
  refine await_at m K c 14 (by decide) ?_
  refine await_at m K c 15 (by decide) ?_
  exact ((finish m K c).trans h).trans (run_ret c)

/-- The body, from all that the launch gives. -/
theorem body_run (c : Dev nD) (hx : xM.IsWhole) (hw : wM.IsWhole) (ho : oM.IsWhole) (hg : gM.IsWhole) (ha : aM.IsWhole) (Q : PUnit → sProp 𝕄)
    (h : Post m c ⊢ Q ⟨⟩) :
    Pre m K c ⊢ Run c (cc0_body (F := F) xM hx wM hw oM ho gM hg aM ha cc0_scratch2 cc0_scratch3 cc0_scratch4 cc0_scratch5) Q :=
  start m K c (body_from_first m K c hx hw ho hg ha Q h)

end Cert.AllPairs

end
-- ==== Proof.Deal.lean ====
/-
# What the launch deals out

At launch every counter is zero and one ghost element is split: for each semaphore its invariant, its position and its
mark at round 0, and the tokens of its duties. The tokens are minted per semaphore and dealt to the devices that pay:
those of a barrier and of a receive semaphore go to the other end of the shift. The launch also gives, for all that the
devices owe each other, the matching credits: fifteen units on every barrier, one block and one tile on every receive
semaphore other than number 0.
-/
module

public import proofs.«01_k».proof.Proof.Body

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 64) → ℕ)

/-! ## The cells and the tokens -/

theorem kcell_injective : Function.Injective kcell := by
  rintro ⟨c, k⟩ ⟨c', k'⟩ h
  have h1 : c = c' := by
    have := congrArg (fun g : GSem nD τ sig => g.1.1) h
    cases k <;> cases k' <;> exact this
  subst h1
  have h2 : (kcell (c, k)).2 = (kcell (c, k')).2 := congrArg Prod.snd h
  rcases k with _ | k <;> rcases k' with _ | k'
  · rfl
  · cases h2
  · cases h2
  · have h3 : ownS k = ownS k' := SemLoc.dma.inj h2
    have h4 : 3 + k.val = 3 + k'.val := congrArg Fin.val h3
    have h5 : k = k' := Fin.ext (by omega)
    rw [h5]
def exCells : Finset (GSem nD τ sig) := Finset.univ.map ⟨kcell, kcell_injective⟩

/-- The tokens minted: for every shift one on the barrier, and one on each of the kernel's own semaphores. -/
abbrev tokOf (x : Dev nD × (Fin 16 ⊕ Fin 64)) : GSem nD τ sig × ℕ × Fin 16 := match x.2 with
  | .inl d => (barCell x.1, 0, d)
  | .inr k => (ownCell x.1 k, 0, 0)
theorem tokOf_injective : Function.Injective tokOf := by
  rintro ⟨c, k⟩ ⟨c', k'⟩ h
  rcases k with d | k <;> rcases k' with d' | k'
  · have h1 : c = c' := congrArg (fun x : GSem nD τ sig × ℕ × Fin 16 => x.1.1.1) h
    have h2 : d = d' := congrArg (fun x : GSem nD τ sig × ℕ × Fin 16 => x.2.2) h
    rw [h1, h2]
  · exact nomatch congrArg (fun x : GSem nD τ sig × ℕ × Fin 16 => x.1.2) h
  · exact nomatch congrArg (fun x : GSem nD τ sig × ℕ × Fin 16 => x.1.2) h
  · have h1 : kcell (c, some k) = kcell (c', some k') := congrArg Prod.fst h
    have h2 := kcell_injective h1
    have h3 : c = c' := congrArg Prod.fst h2
    have h4 : k = k' := Option.some.inj (congrArg Prod.snd h2)
    rw [h3, h4]
def exToks : Finset (GSem nD τ sig × ℕ × Fin 16) := Finset.univ.map ⟨tokOf, tokOf_injective⟩

/-- The kernel's own semaphores, as the launch counts them. -/
abbrev osem (k : Fin 64) : SemLoc sig := .dma (ownS k)

omit [FloatOps F] in
theorem bigSep_option (Φ : Option (Fin 64) → sProp 𝕄) :
    bigSep Finset.univ Φ = iprop(Φ none ∗ bigSep Finset.univ fun k => Φ (some k)) := by
  rw [bigSep_univ_equiv (Equiv.optionEquivSumPUnit (Fin 64)).symm Φ, bigSep_univ_sum, star_comm]
  congr 1
  exact bigSep_univ_eq_bigSepL ([PUnit.unit] : List PUnit.{1}) (by decide) (by decide) _

/-! ## The tokens, dealt to those who pay -/

omit [FloatOps F] in
theorem bigSep_swap (Φ : Fin 16 → Fin 16 → sProp 𝕄) :
    (bigSep Finset.univ fun c => bigSep Finset.univ fun d => Φ c d) = bigSep Finset.univ fun d => bigSep Finset.univ fun c => Φ c d :=
  Pipeline.bigSep_univ_comm Φ

/-- The shift by `d`, as a bijection of the devices. -/
def shiftBy (d : Fin 16) : Fin 16 ≃ Fin 16 where
  toFun c := c + d
  invFun c := c - d
  left_inv c := by revert c d; decide
  right_inv c := by revert c d; decide

omit [FloatOps F] in
/-- Summed over all devices, what belongs to device `c` at shift `d` is what belongs to device `c + d`. -/
theorem around_univ (Φ : Fin 16 → Fin 16 → sProp 𝕄) :
    (bigSep Finset.univ fun c => bigSep Finset.univ fun d => Φ c d) = bigSep Finset.univ fun c => bigSep Finset.univ fun d => Φ (c + d) d := by
  rw [bigSep_swap, bigSep_swap fun c d => Φ (c + d) d]
  exact bigSep_congr fun d _ => bigSep_univ_equiv (shiftBy d) fun c => Φ c d

omit [FloatOps F] in
theorem around (Φ : Fin 16 → Fin 16 → sProp 𝕄) (h0 : ∀ c, Φ c 0 = iprop(emp)) :
    (bigSep Finset.univ fun c => each (Φ c) shifts) = bigSep Finset.univ fun c => each (fun d => Φ (c + d) d) shifts := by
  have h (Ψ : Fin 16 → sProp 𝕄) (hΨ : Ψ 0 = iprop(emp)) : each Ψ shifts = bigSep Finset.univ Ψ := by
    rw [bigSep_shifts, hΨ, emp_star]
  rw [bigSep_congr fun c _ => h (Φ c) (h0 c), bigSep_congr fun c _ => h (fun d => Φ (c + d) d) (h0 (c + 0))]
  exact around_univ Φ

omit [FloatOps F] in
/-- The same for a family that says nothing of shift 0. -/
theorem around_shifts (Φ : Fin 16 → Fin 16 → sProp 𝕄) :
    (bigSep Finset.univ fun c => each (Φ c) shifts) = bigSep Finset.univ fun c => each (fun d => Φ (c + d) d) shifts := by
  have h := around (fun c d => if d = 0 then iprop(emp) else Φ c d) (fun c => if_pos rfl)
  rw [bigSep_congr fun c _ => each_congr fun d hd => (if_neg hd : (if d = 0 then iprop(emp) else Φ c d) = Φ c d),
    bigSep_congr fun c _ => each_congr fun d hd => (if_neg hd : (if d = 0 then iprop(emp) else Φ (c + d) d) = Φ (c + d) d)] at h
  exact h

/-- The tokens of a device's own semaphores, as minted; and those it pays with. -/
def toks (c : Dev nD) : sProp 𝕄 :=
  iprop((bigSep Finset.univ fun d : Fin 16 => dutyTok ER (barCell c) 0 d) ∗ bigSep Finset.univ fun k : Fin 64 => dutyTok ER (ownCell c k) 0 0)
def paid (c : Dev nD) : sProp 𝕄 :=
  iprop(each (fun d => dutyTok ER (barCell (c + d)) 0 d) shifts
    ∗ toksOf (fun d => ownCell c (xsI d)) ∗ toksOf (fun d => ownCell (c + d) (xrI d)) ∗ toksOf (fun d => ownCell c (asI d))
    ∗ toksOf (fun d => ownCell (c + d) (arI d)))
def kept0 (c : Dev nD) : sProp 𝕄 :=
  iprop(each (fun d => dutyTok ER (barCell c) 0 d) shifts
    ∗ toksOf (fun d => ownCell c (xsI d)) ∗ toksOf (fun d => ownCell c (xrI d)) ∗ toksOf (fun d => ownCell c (asI d))
    ∗ toksOf (fun d => ownCell c (arI d)))

omit [FloatOps F] in
theorem toks_used (c : Dev nD) : toks (F := F) c ⊢ kept0 c := by
  unfold toks kept0 toksOf
  rw [bigSep_arrays, bigSep_shifts]
  iintro ⟨⟨-, Hb⟩, -, H1, H2, H3, H4⟩
  isplitl [Hb]; · iexact Hb
  isplitl [H1]; · iexact H1
  isplitl [H2]; · iexact H2
  isplitl [H3]; · iexact H3
  iexact H4

omit [FloatOps F] in
theorem toks_dealt : (bigSep Finset.univ fun c : Dev nD => toks (F := F) c) ⊢ bigSep Finset.univ fun c : Dev nD => paid c := by
  have h : (bigSep Finset.univ fun c : Dev nD => kept0 (F := F) c) = bigSep Finset.univ fun c : Dev nD => paid c := by
    unfold kept0 paid toksOf
    simp only [bigSep_sep']
    rw [around_shifts fun c d => dutyTok ER (barCell c) 0 d, around_shifts fun c d => dutyTok ER (ownCell c (xrI d)) 0 0,
      around_shifts fun c d => dutyTok ER (ownCell c (arI d)) 0 0]
  exact (bigSep_mono fun c _ => toks_used c).trans (Entails.of_eq h)

/-! ## The ghost element, and the invariants allocated -/

def u₀ : UU := (initOf (Pipeline.cells cfgs cellOf_inj) (Pipeline.launchToks cfgs cellOf_inj), initOf exCells exToks)

/-- What the launch element gives device `c`, -/
def G (c : Dev nD) : sProp 𝕄 :=
  iprop((bigSep Finset.univ fun k : Option (Fin 64) => roundState ER (Rd m) (kcell (c, k)) 0)
    ∗ (bigSep Finset.univ fun k : Option (Fin 64) => iprop(atPos ER (kcell (c, k)) 0 ∅ 0 ∗ reached ER (kcell (c, k)) 0)) ∗ toks c)
/-- and what becomes of it. -/
def G' (c : Dev nD) : sProp 𝕄 := iprop(∃ K, records m K ∗ Ghost c)

theorem fund_exchange : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      = (bigSep Finset.univ fun k => semVal (kcell (c, k)) 0 : sProp 𝕄) := by
  rw [bigSep_option, unscopedSems0_eq, star_comm]; rfl

theorem cells_alloc (c : Dev nD) :
    (bigSep Finset.univ fun k : Option (Fin 64) => iprop(semVal (kcell (c, k)) 0 ∗ roundState ER (Rd m) (kcell (c, k)) 0) : sProp 𝕄)
      ⊢ |={Set.univ}=> bigSep Finset.univ fun k => iprop(∃ κ : ℕ, cellInv ER (Rd m) κ (kcell (c, k))) :=
  (bigSep_mono fun k _ => (Rounds.body_intro ER (Rd m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  rw [← star_assoc, sems0_eq, ← star_assoc, ← bigSep_sep']
  iintro ⟨Hv, Hat, Htok⟩
  imod (cells_alloc m c) $$ Hv with Hinv
  imodintro
  isplitl [Hinv]; · iexact Hinv
  isplitl [Hat]; · iexact Hat
  iexact Htok

/-- What stays with one device. -/
def linear (c : Dev nD) : sProp 𝕄 :=
  iprop((bigSep Finset.univ fun k : Option (Fin 64) => atPos ER (kcell (c, k)) 0 ∅ 0) ∗ paid c)

theorem ghost_intro (c : Dev nD) : iprop(records m K ∗ linear c) ⊢ G' m c := by
  unfold linear paid G' Ghost
  rw [bigSep_option]
  iintro ⟨HR, ⟨Hb, Ho⟩, H0, H1, H2, H3, H4⟩
  iexists K
  isplitl [HR]; · iexact HR
  isplitl [H0]; · iexact H0
  isplitl [H1]; · iexact H1
  isplitl [H2]; · iexact H2
  isplitl [H3]; · iexact H3
  isplitl [H4]; · iexact H4
  isplitl [Hb] <;> iassumption

omit [FloatOps F] in
theorem with_persistent {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option (Fin 64) => iprop(∃ κ : ℕ, cellInv ER (Rd m) κ (kcell ck))),
    bigSep_congr (s := Finset.univ) (fun (c : Dev nD) _ => bigSep_sep' Finset.univ (fun k : Option (Fin 64) => (atPos ER (kcell (c, k)) 0 ∅ 0 : sProp 𝕄)) (fun k => reached ER (kcell (c, k)) 0)),
    bigSep_sep', ← bigSep_univ_prod (fun ck : Dev nD × Option (Fin 64) => (reached ER (kcell ck) 0 : sProp 𝕄))]
  iintro ⟨HI, ⟨Hat, #HR⟩, Htok⟩
  ihave HK := (BI.bigSep_exists_pi Finset.univ (fun (ck : Dev nD × Option (Fin 64)) (κ : ℕ) => (cellInv ER (Rd m) κ (kcell ck) : sProp 𝕄))) $$ HI
  icases HK with ⟨%K, #HI⟩
  ihave Htk := (toks_dealt (F := F)) $$ Htok
  iapply (with_persistent (R := records m K) fun c _ => ghost_intro m K c)
  isplitr
  · unfold records; isplitl; · iexact HI
    iexact HR
  · unfold linear; rw [bigSep_sep']
    isplitl [Hat]; · iexact Hat
    iexact Htk

/-- All counters of all devices become invariants, the tokens are dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- All that the devices owe one cell, through one kind of debt: shift by shift. -/
theorem sum_owed (f : Fin 16 → Fin 16 → CellTallies nD τ sig Unit) (l : List (Fin 16)) (g : GSem nD τ sig) :
    ∑ c : Fin 16, owed (f c) l g () = (l.map fun d => ∑ c : Fin 16, f c d g ()).sum := by
  induction l with
  | nil => exact Finset.sum_const_zero
  | cons d l ih =>
    rw [List.map_cons, List.sum_cons, ← ih, ← Finset.sum_add_distrib]
    exact Finset.sum_congr rfl fun c _ => Nat.add_comm _ _

/-- The debt of one shift to a cell of device `c`: owed by device `c - d`. -/
theorem sum_shift (k : Option (Fin 64)) (n : ℕ) (c d : Fin 16) (e : Option (Fin 64)) :
    ∑ b : Fin 16, (tallyAt (kcell (b + d, k)) () n : CellTallies nD τ sig Unit) (kcell (c, e)) () = if e = k then n else 0 := by
  have h (b : Fin 16) : (tallyAt (kcell (b + d, k)) () n : CellTallies nD τ sig Unit) (kcell (c, e)) ()
      = if b = c - d then (if e = k then n else 0) else 0 := by
    rw [tallyAt_apply]
    by_cases hb : b = c - d
    · subst hb
      rw [if_pos rfl, show c - d + d = c by revert c d; decide]
      by_cases he : e = k
      · subst he; rw [if_pos ⟨rfl, rfl⟩, if_pos rfl]
      · rw [if_neg fun h => he (congrArg Prod.snd (kcell_injective h.1)), if_neg he]
    · rw [if_neg hb, if_neg fun h => hb (by
        have h1 : c = b + d := congrArg Prod.fst (kcell_injective h.1)
        rw [h1]; clear hb h h1; revert b d; decide)]
  rw [Finset.sum_congr rfl fun b _ => h b, Finset.sum_ite_eq' Finset.univ (c - d) fun _ => if e = k then n else 0, if_pos (Finset.mem_univ _)]

theorem sum_O₀ (c : Fin 16) (e : Option (Fin 64)) :
    ∑ b : Fin 16, O₀ b (kcell (c, e)) () = (shifts.map fun d => if e = some (xrI d) then Nx else 0).sum
      + (shifts.map fun d => if e = some (arI d) then Na else 0).sum + (shifts.map fun d => if e = none then 1 else 0).sum := by
  have h (b : Fin 16) : O₀ b (kcell (c, e)) () = owed (oweX b) shifts (kcell (c, e)) () + owed (oweA b) shifts (kcell (c, e)) ()
      + owed (oweBar b) shifts (kcell (c, e)) () := rfl
  have h1 : (shifts.map fun d => ∑ b : Fin 16, oweX b d (kcell (c, e)) ()) = shifts.map fun d => if e = some (xrI d) then Nx else 0 :=
    List.map_congr_left fun d _ => sum_shift (some (xrI d)) Nx c d e
  have h2 : (shifts.map fun d => ∑ b : Fin 16, oweA b d (kcell (c, e)) ()) = shifts.map fun d => if e = some (arI d) then Na else 0 :=
    List.map_congr_left fun d _ => sum_shift (some (arI d)) Na c d e
  have h3 : (shifts.map fun d => ∑ b : Fin 16, oweBar b d (kcell (c, e)) ()) = shifts.map fun d => if e = none then 1 else 0 :=
    List.map_congr_left fun d _ => sum_shift none 1 c d e
  rw [Finset.sum_congr rfl fun b _ => h b, Finset.sum_add_distrib, Finset.sum_add_distrib, sum_owed oweX, sum_owed oweA, sum_owed oweBar,
    h1, h2, h3]

theorem launched (c : Dev nD) (e : Option (Fin 64)) (n : ℕ) (hn : ∑ b : Fin 16, O₀ b (kcell (c, e)) () = n) :
    tallyOn (kcell (c, e)) (launchCredit (Pipeline.owing O₀) 0 (kcell (c, e))) = (tallyAt (kcell (c, e)) () n : CellTallies nD τ sig Unit) := by
  unfold tallyAt; refine congrArg _ (Finsupp.ext fun u => ?_); cases u
  rw [Pipeline.launchCredit_owing, Finsupp.single_eq_same]; exact hn

theorem sum_pick (n : ℕ) (k : Fin 16 → Option (Fin 64)) (d : Fin 16) (hd : d ≠ 0) (hk : ∀ e, Iff (k d = k e) (d = e)) :
    (shifts.map fun e => if k d = k e then n else 0).sum = n := by
  rw [List.map_congr_left fun e _ => (if_congr (hk e) rfl rfl : (if k d = k e then n else 0) = if d = e then n else 0),
    ← List.sum_toFinset _ (by decide), Finset.sum_ite_eq, if_pos]
  clear hk; revert hd; revert d; decide
theorem sum_miss (n : ℕ) (P : Fin 16 → Prop) [DecidablePred P] (h : ∀ e, ¬P e) :
    (shifts.map fun e => if P e then n else 0).sum = 0 := by
  rw [List.map_congr_left fun e _ => (if_neg (h e) : (if P e then n else 0) = 0)]; decide

theorem sum_bar (c : Fin 16) : ∑ b : Fin 16, O₀ b (kcell (c, none)) () = 15 := by
  rw [sum_O₀, sum_miss Nx (fun d => none = some (xrI d)) (fun _ h => nomatch h), sum_miss Na (fun d => none = some (arI d)) (fun _ h => nomatch h)]
  decide
theorem sum_xr (c d : Fin 16) (hd : d ≠ 0) : ∑ b : Fin 16, O₀ b (kcell (c, some (xrI d))) () = Nx := by
  rw [sum_O₀, sum_pick Nx (fun d => some (xrI d)) d hd (by clear hd; revert d; decide),
    sum_miss Na (fun e => some (xrI d) = some (arI e)) (by clear hd; revert d; decide), sum_miss 1 (fun _ => some (xrI d) = none) (fun _ h => nomatch h), Nat.add_zero]
theorem sum_ar (c d : Fin 16) (hd : d ≠ 0) : ∑ b : Fin 16, O₀ b (kcell (c, some (arI d))) () = Na := by
  rw [sum_O₀, sum_pick Na (fun d => some (arI d)) d hd (by clear hd; revert d; decide),
    sum_miss Nx (fun e => some (arI d) = some (xrI e)) (by clear hd; revert d; decide), sum_miss 1 (fun _ => some (arI d) = none) (fun _ h => nomatch h), Nat.add_zero, Nat.zero_add]

/-- The semaphores of a device's cells. -/
def ksem : Option (Fin 64) ↪ SemLoc sig :=
  ⟨fun k => (kcell (0, k)).2, fun k k' h => by
    have h1 : kcell (0, k) = kcell (0, k') := Prod.ext (by cases k <;> cases k' <;> rfl) h
    exact congrArg Prod.snd (kcell_injective h1)⟩
theorem ksem_cell (c : Dev nD) (k : Option (Fin 64)) : ((c.tc : Thread nD τ), ksem k) = kcell (c, k) := by cases k <;> rfl

omit [FloatOps F] in
theorem take_three (A B C D E H : sProp 𝕄) : iprop(A ∗ B ∗ C ∗ D ∗ E ∗ H) ⊢ iprop(A ∗ D ∗ H) := by
  iintro ⟨Ha, -, -, Hd, -, Hh⟩
  isplitl [Ha]; · iexact Ha
  isplitl [Hd] <;> iassumption

omit [FloatOps F] in
theorem creds (c : Dev nD) : (Pipeline.launchCred O₀ c : sProp 𝕄) ⊢ Creds c := by
  unfold Pipeline.launchCred
  refine (bigSep_subset (Finset.subset_univ (Finset.univ.map ksem))).trans ?_
  rw [bigSep_map]
  simp only [ksem_cell]
  rw [bigSep_option, bigSep_arrays, launched c none 15 (sum_bar c)]
  unfold Creds sentOf Sent
  rw [each_congr fun d hd => congrArg cred (launched c (some (xrI d)) Nx (sum_xr c d hd)),
    each_congr fun d hd => congrArg cred (launched c (some (arI d)) Na (sum_ar c d hd))]
  exact take_three _ _ _ _ _ _

end Cert.AllPairs

end
-- ==== Proof.Launch.lean ====
/-
# The run

The pipeline around the kernel stages the two arguments, calls the body once and writes the result back. With the body's
specification and what the launch deals out, the library's launch theorem gives the run of the sixteen devices: it ends,
every device's result array holds what `outAt` says, the arguments are as they were and every counter is zero.
-/
module

public import proofs.«01_k».proof.Proof.Deal
public import Idealize.ShloMosaic.Lib.Pipeline.CollectiveSegs

@[expose] public section

noncomputable section

namespace Cert.AllPairs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 64) → ℕ)

open Idealize.ShloMosaic.Pipeline (Dat Cfg Window BodyObligation cellOf)

variable (ρ : Dev nD → PrngReg)

abbrev s₀ : MemSt nD τ sig (Elt F) := ⟨m, fun _ => 0, ρ⟩

/-! ## The pipeline's data -/

theorem cfg0_N : cfg0.N = 1 := N_0
/-- The only point of the grid. -/
def t₀ : Fin cfg0.N := ⟨0, by rw [cfg0_N]; exact Nat.one_pos⟩
theorem fin_N (t : Fin cfg0.N) : t = t₀ := by
  obtain ⟨t, ht⟩ := t; have := cfg0_N; exact Fin.ext (by simp only [t₀]; omega)

/-- What the body gets from the launch besides the staged windows, -/
def given (c : Dev nD) : sProp 𝕄 := iprop((∃ K, records m K ∗ Ghost c) ∗ Creds c ∗ levAts L lv)
def Φ₀ (c : Dev nD) : sProp 𝕄 := iprop(given m c ∗ anyG c ∗ anyA c)
/-- and what it returns besides them. -/
def Φ₁ (c : Dev nD) : sProp 𝕄 :=
  iprop(anyG (F := F) c ∗ anyA c ∗ (bigSep Finset.univ fun k : Fin 64 => semVal (ownCell c k) 0) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ
theorem fetch_x (t : Fin cfg0.N) : (cfg0.win (0 : Fin 3)).fetch t = true := by rw [fin_N t]; rfl
theorem fetch_w (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

set_option maxRecDepth 4000 in
def bodyPre (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))
def bodyPost (c : Dev nD) : sProp 𝕄 :=
  iprop(Φ₁ c ∗ (dats m 0 c).owesAt () t₀.succ ∗ stg c cc0_stg0_0 (xstg m c) ∗ stg c cc0_stg1_0 (wstg m c) ∗ stg c cc0_stg2_0 (outAt m c))

theorem pre_of (c : Dev nD) : bodyPre m c ⊢ iprop(∃ K, Pre m K c) := by
  unfold bodyPre Φ₀ given
  iintro ⟨⟨⟨⟨%K, HR, HG⟩, Hc, Hl⟩, Hg, Ha⟩, Ho, ⟨%d0, %g0, %h0, Hx⟩, ⟨%d1, %g1, %h1, Hw⟩, ⟨%d2, %g2, -, Hout⟩⟩
  have e0 : g0 = xstg m c := by rw [h0]; unfold Dat.before; rw [if_pos (fetch_x t₀)]; rfl
  have e1 : g1 = wstg m c := by rw [h1]; unfold Dat.before; rw [if_pos (fetch_w t₀)]; rfl
  subst e0
  subst e1
  iexists K
  unfold Pre Rec xWhole wPts anyO oPts owesX Dat.owesAt Pipeline.owesWithin
  icases Ho with ⟨%W, %hW, HO⟩
  isplitl [HR Hl]
  · isplitl [HR] <;> iassumption
  isplitl [HO]
  · iexists W; iexact HO
  isplitl [HG]; · iexact HG
  isplitl [Hc]; · iexact Hc
  isplitl [Hx]; · iexact Hx
  isplitl [Hw]; · iexact Hw
  isplitl [Hout]
  · iexists g2; iexact Hout
  isplitl [Hg] <;> iassumption

theorem post_to (c : Dev nD) : Post m c ⊢ bodyPost m c := by
  unfold Post bodyPost Φ₁ owesX xWhole wPts oPts Dat.owesAt Pipeline.owesWithin
  iintro ⟨⟨%W, HO⟩, Hx, Hw, Ho, Hg, Ha, Hz, Hb⟩
  isplitl [Hg Ha Hz Hb]
  · isplitl [Hg]; · iexact Hg
    isplitl [Ha]; · iexact Ha
    isplitl [Hz] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem body_sound (c : Dev nD) :
    bodyPre m c ⊢ Run c (cc0_body (F := F) xM (Memref.isWhole_whole _) wM (Memref.isWhole_whole _) oM (Memref.isWhole_whole _)
      gM (Memref.isWhole_whole _) aM (Memref.isWhole_whole _) cc0_scratch2 cc0_scratch3 cc0_scratch4 cc0_scratch5) (fun _ => bodyPost m c) := by
  refine (pre_of m c).trans ?_
  iintro ⟨%K, H⟩
  iapply (body_run m K c _ _ _ _ _ (fun _ => bodyPost m c) (post_to m c))
  iexact H

set_option maxRecDepth 20000 in
theorem body_obligation (c : Dev nD) : BodyObligation (dats (F := F) m 0 c) (defs₀ (F := F)) 𝒱₀ () Set.univ := fun t => by
  rw [fin_N t]
  rw [bigSep_W, bigSep_W]
  simp only [owns_whole_eq]
  exact body_sound m c

/-! ## The launch -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(given m c ∗ emp) := by
  iintro ⟨-, Hlev, Hcr, -, HG⟩
  ihave Hc := (creds (F := F) c) $$ Hcr
  imodintro
  unfold given G'
  isplitl
  · isplitl [HG]; · iexact HG
    isplitl [Hc] <;> iassumption
  · iempintro

theorem first_phi (c : Dev nD) :
    iprop(given m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ anyG anyA
  iintro ⟨Hs, -, Hg, Ha⟩
  isplitl [Hs]; · iexact Hs
  isplitl [Hg] <;> iassumption

theorem last_phi (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq]
  unfold Φ₁ anyG anyA Pipeline.ownSems0
  iintro ⟨Hg, Ha, Hz, Hb⟩
  isplitl [Hb]; · iexact Hb
  isplitl [Hz]; · iexact Hz
  isplitl [Hg] <;> iassumption

/-- While the pipeline waits for its own copies a device owes what it owes at launch, or nothing: all above level 0. -/
theorem waits (c : Dev nD) : (levAts L lv : sProp 𝕄) ⊢ Pipeline.cellsWaits cfgs (dats m) () 0 c :=
  Pipeline.cellsWaits_intro cfgs (dats m) () 0 c fun w s t =>
    mayWait c _ 0 (by fin_cases w <;> fin_cases s <;> decide) _ (by
      rcases t with ⟨_ | _, ht⟩
      · exact fun g u h => O₀_lev h
      · exact fun g u h => absurd h (Nat.lt_irrefl 0))

/-- What the window arrays hold at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair run of the sixteen devices, from any memory with zero counters, over any float values, ends with the
    window arrays at `finalA` and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := given m) (Y := fun c => unscopedSems0 c) (Z := fun _ => iprop(emp))
    (hX := start_intro m ρ) (hin := first_phi m) (hout := last_phi m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m c (0 : Fin 3) = m ((c : Thread nD τ).loc main_arg0) := (dats (F := F) m 0 c).arrAt_in (0 : Fin 3) rfl _
theorem final_w (c : Dev nD) : finalA m c (1 : Fin 3) = m ((c : Thread nD τ).loc main_arg1) := (dats (F := F) m 0 c).arrAt_in (1 : Fin 3) rfl _

end Cert.AllPairs

end
-- ==== Proof.Sums.lean ====
/-
# The mathematics of the result

With `X` the whole of `x` and `W` the whole of `w`: the entries of `relu (X·W)`, their greatest, and the value to which one
entry is quantised. A product over 4096 columns is the sum of the products over its 16 blocks of 256 columns, the blocks
taken in any order. All of it over the extended reals.
-/
module

public import Idealize.ShloMosaic.PureOps.Ideal.Laws
public import Idealize.ShloMosaic.Lib.ValueIdx
public import Idealize.ShloMosaic.Lib.MatmulPlain
public import Idealize.ShloMosaic.Lib.StackMember
public import Idealize.ShloMosaic.Lib.Pipeline.Value

@[expose] public section

noncomputable section

namespace Cert.AllPairs

open Idealize.ShloMosaic
open Idealize.ShloMosaic.ValueIdx
open scoped BigOperators

/-- Row (or column) `k` of block `b`, of 16 blocks of 256. -/
def inBlock (b : Fin 16) (k : Fin 256) : Fin 4096 := ⟨256 * b.val + k.val, by have := b.isLt; have := k.isLt; omega⟩

/-- Every row is in a block. -/
theorem exists_inBlock (R : Fin 4096) : ∃ b k, R = inBlock b k :=
  ⟨⟨R.val / 256, by have := R.isLt; omega⟩, ⟨R.val % 256, Nat.mod_lt _ (by decide)⟩, Fin.ext (Nat.div_add_mod R.val 256).symm⟩

/-- A sum over 4096 positions is the sum of the sums over the blocks. -/
theorem sum_blocks {M : Type} [AddCommMonoid M] (f : Fin 4096 → M) : ∑ K, f K = ∑ b : Fin 16, ∑ k : Fin 256, f (inBlock b k) := by
  rw [← Fintype.sum_prod_type' (fun b k => f (inBlock b k)), ← Equiv.sum_comp (finProdFinEquiv (m := 16) (n := 256)) f]
  refine Finset.sum_congr rfl fun p _ => congrArg f (Fin.ext ?_)
  show p.2.val + 256 * p.1.val = 256 * p.1.val + p.2.val
  omega

/-- Counting backwards from `c` around the sixteen. -/
def backFrom (c : Fin 16) : Fin 16 ≃ Fin 16 where
  toFun d := c - d
  invFun d := c - d
  left_inv d := by revert c d; decide
  right_inv d := by revert c d; decide

/-- A sum over the sixteen may be taken backwards from any of them. -/
theorem sum_back {M : Type} [AddCommMonoid M] (c : Fin 16) (f : Fin 16 → M) : ∑ d, f (c - d) = ∑ b, f b :=
  Equiv.sum_comp (backFrom c) f

/-- A sum over the sixteen, added up from the left. -/
theorem sum_sixteen {M : Type} [AddCommMonoid M] (f : Fin 16 → M) :
    f 0 + f 1 + f 2 + f 3 + f 4 + f 5 + f 6 + f 7 + f 8 + f 9 + f 10 + f 11 + f 12 + f 13 + f 14 + f 15 = ∑ d, f d := by
  simp only [Fin.sum_univ_castSucc, Fin.sum_univ_zero, zero_add]
  rfl

/-! ## The greatest of finitely many -/

/-- A fold of maxima from −∞ over everything is the least upper bound. -/
theorem fold_max_univ {ι : Type} [Fintype ι] (s : Finset ι) (hs : ∀ i, i ∈ s) (b : EReal) (hb : b = ⊥) (f : ι → EReal) :
    s.fold max b f = Finset.univ.sup f := by
  obtain rfl : s = Finset.univ := Finset.eq_univ_iff_forall.mpr hs
  subst hb
  rfl

theorem le_greatest {ι : Type} [Fintype ι] (f : ι → EReal) (i : ι) : f i ≤ Finset.univ.sup f := Finset.le_sup (Finset.mem_univ i)

theorem greatest_le {ι : Type} [Fintype ι] (f : ι → EReal) (b : EReal) (h : ∀ i, f i ≤ b) : Finset.univ.sup f ≤ b :=
  Finset.sup_le fun i _ => h i

/-- A least upper bound over a renamed index set. -/
theorem sup_equiv {ι κ : Type} [Fintype ι] [Fintype κ] (e : ι ≃ κ) (f : κ → EReal) :
    (Finset.univ.sup fun i => f (e i)) = Finset.univ.sup f :=
  le_antisymm (greatest_le _ _ fun i => le_greatest f (e i))
    (greatest_le _ _ fun k => by
      have h := le_greatest (fun i => f (e i)) (e.symm k)
      simpa only [Equiv.apply_symm_apply] using h)

theorem bits_bot : Ideal.ofBits .f32 0xFF800000#32 = ⊥ := by simp [Ideal.ofBits, Ideal.ieee]

/-! ## The result's entries -/

section Whole

variable (X : FVec Ideal ⟨2, ![4096, 4096]⟩ .bf16) (W : FVec Ideal ⟨2, ![4096, 8192]⟩ .bf16)

/-- What block `b` of the columns of `X` adds to entry `(R, j)` of the product. -/
def blockTerm (R : Fin 4096) (j : Fin 8192) (b : Fin 16) : EReal := ∑ k : Fin 256, X (ix2 R (inBlock b k)) * W (ix2 (inBlock b k) j)

/-- Entry `(R, j)` of `relu (X·W)`. -/
def act (R : Fin 4096) (j : Fin 8192) : EReal := max (∑ b, blockTerm X W R j b) 0

/-- The greatest entry. -/
def peak : EReal := Finset.univ.sup fun i : (⟨2, ![4096, 8192]⟩ : Shape).Idx => act X W (i 0) (i 1)

theorem act_nonneg (R : Fin 4096) (j : Fin 8192) : 0 ≤ act X W R j := le_max_right _ _

/-- An entry is its own absolute value. -/
theorem act_abs (R : Fin 4096) (j : Fin 8192) : max (act X W R j) (-act X W R j) = act X W R j :=
  max_eq_left ((EReal.neg_le_neg_iff.mpr (act_nonneg X W R j)).trans (neg_zero.le.trans (act_nonneg X W R j)))

theorem act_le_peak (R : Fin 4096) (j : Fin 8192) : act X W R j ≤ peak X W :=
  le_greatest (fun i : (⟨2, ![4096, 8192]⟩ : Shape).Idx => act X W (i 0) (i 1)) (ix2 R j)

end Whole

/-- The value to which entry `y` is quantised where the greatest entry is `p`: the nearest of the 255 multiples of
    `p / 127` from −127 to 127 times it. -/
def quant (p y : EReal) : EReal :=
  min (Ideal.ofBits .f32 0x42FE0000#32)
      (max (Ideal.ofBits .f32 0xC2FE0000#32)
        (FloatOps.roundeven (F := Ideal) (φ := .f32) (Ideal.div y (Ideal.div p (Ideal.ofBits .f32 0x42FE0000#32)))))
    * Ideal.div p (Ideal.ofBits .f32 0x42FE0000#32)

end Cert.AllPairs

end
-- ==== Proof.Entries.lean ====
/-
# Entries of the staged blocks

The blocks that the body reads, entry by entry, in terms of the arrays at launch; and what the result array holds at the end.
-/
module

public import proofs.«01_k».proof.Proof.Launch
public import proofs.«01_k».proof.Proof.Sums
public import Idealize.ShloMosaic.Lib.Pipeline.ValueKit.Geometry

@[expose] public section

noncomputable section

namespace Cert.AllPairs

open Cert.KernelIdeal Cert.KernelIdeal.Gen
open Idealize.ShloMosaic
open Idealize.ShloMosaic.TcCoe
open Idealize.ShloMosaic.ValueIdx

variable {F : FTy → Type} [FloatOps F]
variable (m : (ℓ : Loc nD τ sig) → Buf (Elt F) ℓ)

/-- A window that is the whole array reads the array. -/
theorem xstg_eq (c : Dev nD) : xstg m c = m ((c : Thread nD τ).loc main_arg0) := by
  funext i
  refine congrArg (m ((c : Thread nD τ).loc main_arg0)) ?_
  funext a
  apply Fin.ext
  match a with
  | 0 => show 0 * 4096 + 1 * (i 0 : Nat) = (i 0 : Nat); omega
  | 1 => show 0 * 256 + 1 * (i 1 : Nat) = (i 1 : Nat); omega

theorem wstg_eq (c : Dev nD) : wstg m c = m ((c : Thread nD τ).loc main_arg1) := by
  funext i
  refine congrArg (m ((c : Thread nD τ).loc main_arg1)) ?_
  funext a
  apply Fin.ext
  match a with
  | 0 => show 0 * 4096 + 1 * (i 0 : Nat) = (i 0 : Nat); omega
  | 1 => show 0 * 8192 + 1 * (i 1 : Nat) = (i 1 : Nat); omega

theorem xBlk_at (c : Dev nD) (b : Fin 16) (r k : Fin 256) :
    xBlk m c b (ix2 r k) = xstg m c (ix2 (inBlock b r) k) := by
  refine congrArg (xstg m c) ?_
  funext a
  apply Fin.ext
  refine (unit_emb_val _ _ _ _ _).trans ?_
  match a with
  | 0 => rfl
  | 1 => exact Nat.zero_add _

theorem wBlk_at (c : Dev nD) (b : Fin 16) (k : Fin 256) (j : Fin 8192) :
    wBlk m c b (ix2 k j) = wstg m c (ix2 (inBlock b k) j) := by
  refine congrArg (wstg m c) ?_
  funext a
  apply Fin.ext
  refine (unit_emb_val _ _ _ _ _).trans ?_
  match a with
  | 0 => rfl
  | 1 => exact Nat.zero_add _

theorem gBlk_at (c : Dev nD) (d : Fin 16) (r k : Fin 256) :
    gBlk m c d (Fin.cons ⟨0, Nat.one_pos⟩ (ix2 r k)) = xstg m (c - d) (ix2 (inBlock c r) k) := by
  have e : gBlk m c d (Fin.cons ⟨0, Nat.one_pos⟩ (ix2 r k)) = landX m c (gIx d r k) := by
    refine congrArg (landX m c) ?_
    funext a
    apply Fin.ext
    refine (unit_emb_val _ _ _ _ _).trans ?_
    match a with
    | 0 => exact Nat.add_zero _
    | 1 => exact Nat.zero_add _
    | 2 => exact Nat.zero_add _
  rw [e, landX_at]
  refine congrArg (xstg m (c - d)) ?_
  funext a
  apply Fin.ext
  match a with
  | 0 => rfl
  | 1 => rfl

/-- The result array ends as the body leaves its one block, which is the whole of it. -/
theorem final_out (c : Dev nD) : finalA m c (2 : Fin 3) = outAt m c :=
  (dats m 0 c).arrAt_eq_of_after_last (2 : Fin 3) t0_0 (by decide +kernel : win0_2.WholeAt t0_0) _ fun _ => rfl

end Cert.AllPairs

end
-- ==== Proof.Product.lean ====
/-
# The local product

On device `c`, row `r` of the local product is row `256 c + r` of the whole product: the sixteen addends, added in the order in
which the blocks are received, are the contributions of the sixteen blocks of columns of `x`, taken backwards from block `c`.
-/
module

public import proofs.«01_k».proof.Proof.Entries
public import Idealize.ShloMosaic.Lib.Layout

@[expose] public section

noncomputable section

namespace Cert.AllPairs

open Cert.KernelIdeal Cert.KernelIdeal.Gen
open Idealize.ShloMosaic
open Idealize.ShloMosaic.TcCoe
open Idealize.ShloMosaic.ValueIdx
open scoped BigOperators

variable (m : (ℓ : Loc nD τ sig) → Buf (Elt Ideal) ℓ)
variable (X : FVec Ideal ⟨2, ![4096, 4096]⟩ .bf16) (W : FVec Ideal ⟨2, ![4096, 8192]⟩ .bf16)

/-- At launch device `c` holds block `c` of the columns of `X`, and the whole of `W`. -/
structure Given : Prop where
  x : ∀ c : Dev nD, m ((c : Thread nD τ).loc main_arg0) = Layout.block ⟨2, ![4096, 256]⟩ ⟨2, ![4096, 4096]⟩ 1 16 c X
  w : ∀ c : Dev nD, m ((c : Thread nD τ).loc main_arg1) = W

variable {m X W}

theorem Given.x_at (H : Given m X W) (c : Dev nD) (R : Fin 4096) (k : Fin 256) : xstg m c (ix2 R k) = X (ix2 R (inBlock c k)) := by
  rw [xstg_eq, H.x c]
  refine congrArg X ?_
  funext a
  apply Fin.ext
  match a with
  | 0 => rfl
  | 1 => show c.val * 256 + k.val = 256 * c.val + k.val; omega

theorem Given.w_at (H : Given m X W) (c : Dev nD) (i) : wstg m c i = W i := by
  rw [wstg_eq, H.w c]

/-- One block product into zero, at an entry. -/
theorem dot_at (A : FVec Ideal S256x256 .bf16) (B : FVec Ideal S256x8192 .bf16) (r : Fin 256) (j : Fin 8192) :
    matmul dot_S256x256_S256x8192_S256x8192_1_0_0_1_n_n none A B (constant S256x8192 .f32 0x00000000#32) (ix2 r j)
      = ∑ k : Fin 256, A (ix2 r k) * B (ix2 k j) := by
  refine (Ideal.matmul_plain_apply (M := 256) (K := 256) (N := 8192) none A B _ r j).trans ?_
  show Ideal.ofBits .f32 0x00000000#32 + _ = _
  rw [Ideal.ofBits_zero_f32, zero_add]

/-- The own block's product is block `c`'s contribution; -/
theorem own_at (H : Given m X W) (c : Dev nD) (r : Fin 256) (j : Fin 8192) :
    acc0 m c (ix2 r j) = blockTerm X W (inBlock c r) j (c - 0) := by
  refine (dot_at (shapeCast S256x256 (xBlk m c c) shapeCasts_S256x256_S256x256)
    (shapeCast S256x8192 (wBlk m c c) shapeCasts_S256x8192_S256x8192) r j).trans ?_
  rw [shapeCast_self, shapeCast_self, shift_zero]
  refine Finset.sum_congr rfl fun k _ => ?_
  rw [xBlk_at, wBlk_at, H.x_at, H.w_at]

/-- slot `d`'s product is block `c - d`'s. -/
theorem slot_at (H : Given m X W) (c : Dev nD) (d : Fin 16) (r : Fin 256) (j : Fin 8192) :
    matmul (φ₁ := .bf16) (φ₂ := .bf16) dot_S256x256_S256x8192_S256x8192_1_0_0_1_n_n none
        (shapeCast S256x256 (gBlk m c d) shapeCasts_S1x256x256_S256x256)
        (shapeCast S256x8192 (wFor m c d) shapeCasts_S256x8192_S256x8192) (constant S256x8192 .f32 0x00000000#32) (ix2 r j)
      = blockTerm X W (inBlock c r) j (c - d) := by
  refine (dot_at _ _ r j).trans ?_
  rw [shapeCast_self]
  refine Finset.sum_congr rfl fun k _ => ?_
  rw [show shapeCast S256x256 (gBlk m c d) shapeCasts_S1x256x256_S256x256 (ix2 r k) = _ from
    shapeCast_dropUnit_apply ![256, 256] (gBlk m c d) shapeCasts_S1x256x256_S256x256 (ix2 r k)]
  rw [gBlk_at, H.x_at]
  unfold wFor
  rw [wBlk_at, H.w_at]

/-- The local rows after the last addition and the `relu`. -/
theorem yAt_at (H : Given m X W) (c : Dev nD) (r : Fin 256) (j : Fin 8192) : yAt m c (ix2 r j) = act X W (inBlock c r) j := by
  have s := fun d => slot_at H c d r j
  have a0 := own_at H c r j
  have a1 := congrArg₂ (· + ·) a0 (s 1)
  have a3 := congrArg₂ (· + ·) (congrArg₂ (· + ·) a1 (s 2)) (s 3)
  have a5 := congrArg₂ (· + ·) (congrArg₂ (· + ·) a3 (s 4)) (s 5)
  have a6 := congrArg₂ (· + ·) a5 (s 6)
  have a8 := congrArg₂ (· + ·) (congrArg₂ (· + ·) a6 (s 7)) (s 8)
  have a10 := congrArg₂ (· + ·) (congrArg₂ (· + ·) a8 (s 9)) (s 10)
  have a11 := congrArg₂ (· + ·) a10 (s 11)
  have a13 := congrArg₂ (· + ·) (congrArg₂ (· + ·) a11 (s 12)) (s 13)
  have a15 := congrArg₂ (· + ·) (congrArg₂ (· + ·) a13 (s 14)) (s 15)
  refine (congrArg₂ max a15 Ideal.ofBits_zero_f32).trans ?_
  refine congrArg (max · 0) ?_
  exact (sum_sixteen fun d => blockTerm X W (inBlock c r) j (c - d)).trans (sum_back c _)

end Cert.AllPairs

end
-- ==== Proof.Greatest.lean ====
/-
# The greatest entry

A device's tile holds the greatest of its rows' entries, in every position; the tiles of all sixteen devices together hold the
greatest of all entries.
-/
module

public import proofs.«01_k».proof.Proof.Product

@[expose] public section

noncomputable section

namespace Cert.AllPairs

open Cert.KernelIdeal Cert.KernelIdeal.Gen
open Idealize.ShloMosaic
open Idealize.ShloMosaic.TcCoe
open Idealize.ShloMosaic.ValueIdx
open scoped BigOperators

variable {m : (ℓ : Loc nD τ sig) → Buf (Elt Ideal) ℓ}
variable {X : FVec Ideal ⟨2, ![4096, 4096]⟩ .bf16} {W : FVec Ideal ⟨2, ![4096, 8192]⟩ .bf16}

/-- A vector of one element has one index. -/
theorem one_index (i k : S1.Idx) : i = k := by
  funext a
  apply Fin.ext
  match a with
  | 0 =>
    have h : (i 0 : Nat) < 1 := (i 0).isLt
    have h' : (k 0 : Nat) < 1 := (k 0).isLt
    show (i 0 : Nat) = (k 0 : Nat)
    omega

/-- The greatest element of a vector. -/
def greatest {s : Shape} (v : FVec Ideal s .f32) : EReal := Finset.univ.sup fun i => (v i : EReal)

theorem le_greatest_at {s : Shape} (v : FVec Ideal s .f32) (i : s.Idx) : v i ≤ greatest v := le_greatest (fun i => (v i : EReal)) i

/-- A maximum over every axis of a vector reshaped first is the greatest of its elements. -/
theorem reduced_max {s t : Shape} (axes : List (Fin t.rank)) (v : FVec Ideal s .f32) (hs : s.ShapeCasts t) (h : t.Reduces axes S1)
    (hφ : FKind.Formats .f32) (hacc : (0xFF800000#32 : BitVec 32) = FKind.maximumf.neutral .f32 hφ) (j : S1.Idx) :
    multiReduction .maximumf axes S1 (shapeCast t v hs) 0xFF800000#32 h hφ hacc j = greatest v := by
  rw [multiReduction_maximumf_eq_fold]
  refine (fold_max_univ _ (fun i => Finset.mem_filter.mpr ⟨Finset.mem_univ i, one_index _ _⟩) _ bits_bot _).trans ?_
  exact sup_equiv (Shape.reshapeEquiv hs) (fun i => (v i : EReal))

/-- A tile spreads the one element it is given. -/
theorem spread_at (v : FVec Ideal S1 .f32) (b : EReal) (h : ∀ j, v j = b) (i : S1x8x128.Idx) : k0_pay15 v i = b := by
  unfold k0_pay15
  exact h _

/-- Device `c`'s maximum is the greatest of its rows' entries, -/
theorem topAt_eq (c : Dev nD) (j : S1.Idx) : topAt m c j = greatest (yAt m c) := by
  unfold topAt k0_pay14
  exact reduced_max [1, 2] (yAt m c) shapeCasts_S256x8192_S1x256x8192 reduces_S1x256x8192_S1 (.inl rfl) rfl j

/-- as is every element of its tile. -/
theorem tileAt_eq (c : Dev nD) (i : S1x8x128.Idx) : tileAt m c i = greatest (yAt m c) :=
  spread_at _ _ (topAt_eq c) i

/-- The tiles of device `c` after the exchange, as a vector. -/
def tiles (m : (ℓ : Loc nD τ sig) → Buf (Elt Ideal) ℓ) (c : Dev nD) : FVec Ideal S16x8x128 .f32 := landA m c

theorem tiles_at (c : Dev nD) (i : S16x8x128.Idx) : tiles m c i = greatest (yAt m (c - ⟨(i 0).val, (i 0).isLt⟩)) := by
  unfold tiles landA
  exact tileAt_eq _ _

/-- The greatest element of the sixteen tiles is the greatest entry of the whole product. -/
theorem tiles_greatest (H : Given m X W) (c : Dev nD) : greatest (tiles m c) = peak X W := by
  apply le_antisymm
  · refine greatest_le _ _ fun i => ?_
    rw [tiles_at]
    refine greatest_le _ _ fun q => ?_
    obtain ⟨r, j, rfl⟩ : ∃ r j, q = ix2 r j := ⟨_, _, eq_ix2 q⟩
    rw [yAt_at H]
    exact act_le_peak X W _ _
  · refine greatest_le _ _ fun q => ?_
    obtain ⟨b, r, hR⟩ := exists_inBlock (q 0)
    have h := le_greatest_at (tiles m c) (aIx (c - b) 0 0)
    rw [tiles_at] at h
    have hb : c - (⟨(aIx (c - b) 0 0 0).val, (aIx (c - b) 0 0 0).isLt⟩ : Fin 16) = b := (backFrom c).left_inv b
    rw [hb] at h
    refine le_trans (le_of_eq ?_) ((le_greatest_at (yAt m b) (ix2 r (q 1))).trans h)
    exact (congrArg (fun R => act X W R (q 1)) hR).trans (yAt_at H b r (q 1)).symm

/-- The last step quantises every entry by the greatest element of the tiles. -/
theorem quantised_at (y : FVec Ideal S256x8192 .f32) (a : FVec Ideal S16x8x128 .f32) (i : S256x8192.Idx) :
    k0_pay16 y a i = quant (greatest a) (y i) := by
  have g : extractAt ![0, 0, 0, 0] (shapeCast S1x1x1x1 (multiReduction .maximumf [1, 2, 3] S1
      (shapeCast S1x16x8x128 a shapeCasts_S16x8x128_S1x16x8x128) 0xFF800000#32 reduces_S1x16x8x128_S1 (.inl rfl) rfl)
      shapeCasts_S1_S1x1x1x1) inpos_S1x1x1x1_p0_0_0_0 = greatest a := by
    unfold extractAt
    exact reduced_max [1, 2, 3] a shapeCasts_S16x8x128_S1x16x8x128 reduces_S1x16x8x128_S1 (.inl rfl) rfl _
  unfold k0_pay16 quant
  simp only [mulf, minimumf, maximumf, roundeven, divf, broadcast, g]
  rfl

/-- What device `c` writes: its rows of the whole product, quantised by the greatest entry of the whole product. -/
theorem outAt_at (H : Given m X W) (c : Dev nD) (r : Fin 256) (j : Fin 8192) :
    outAt m c (ix2 r j) = quant (peak X W) (act X W (inBlock c r) j) := by
  have h := quantised_at (yAt m c) (tiles m c) (ix2 r j)
  rw [tiles_greatest H, yAt_at H] at h
  unfold tiles at h
  unfold outAt
  exact h

end Cert.AllPairs

end
-- ==== Proof.Reference.lean ====
/-
# The reference's result

The reference multiplies the whole of `x` by the whole of `w` at once; its entries, the greatest of their absolute values and
the quantised entries are those of the blocked product.
-/
module

public import proofs.«01_k».proof.Proof.Gen.ReferenceIdeal.Run
public import proofs.«01_k».proof.Proof.Sums

@[expose] public section

noncomputable section

namespace Cert.AllPairs

open Cert.ReferenceIdeal Cert.ReferenceIdeal.Gen
open Idealize.ShloMosaic
open Idealize.ShloMosaic.ValueIdx
open scoped BigOperators

variable (X : FVec Ideal S4096x4096 .bf16) (W : FVec Ideal S4096x8192 .bf16)

/-- `relu (x·w)`, as the reference writes it. -/
def refAct : FVec Ideal S4096x8192 .f32 :=
  maximumf (Host.dotGeneral dot_S4096x4096_S4096x8192_S4096x8192_1_0_0_1_n_n none (extf .f32 X bitsLt_bf16_f32) (extf .f32 W bitsLt_bf16_f32))
    (broadcastInDim S4096x8192 ![] bcast_S_S4096x8192 (constant S_ .f32 0x00000000#32))

/-- The step between two quantised values. -/
def refStep : FVec Ideal S_ .f32 :=
  Host.divf (Host.reduce FloatOps.maximumf (Host.absf (refAct X W)) (constant S_ .f32 0xFF800000#32) reducesTo_S4096x8192_S_d0_1 h_S_)
    (constant S_ .f32 0x42FE0000#32)

/-- The result. -/
def refOut : FVec Ideal S4096x8192 .f32 :=
  mulf (minimumf (broadcastInDim S4096x8192 ![] bcast_S_S4096x8192 (id (constant S_ .f32 0x42FE0000#32)))
      (maximumf (broadcastInDim S4096x8192 ![] bcast_S_S4096x8192 (id (constant S_ .f32 0xC2FE0000#32)))
        (Host.roundeven (Host.divf (refAct X W) (broadcastInDim S4096x8192 ![] bcast_S_S4096x8192 (refStep X W))))))
    (broadcastInDim S4096x8192 ![] bcast_S_S4096x8192 (refStep X W))

theorem refAct_at (R : Fin 4096) (j : Fin 8192) : refAct X W (ix2 R j) = act X W R j := by
  have h := StackMember.dotGeneral_plain_apply (m := 4096) (k := 4096) (n := 8192) none
    (extf .f32 X bitsLt_bf16_f32) (extf .f32 W bitsLt_bf16_f32) R j
  refine (congrArg₂ max h Ideal.ofBits_zero_f32).trans ?_
  refine congrArg (max · 0) ?_
  exact sum_blocks fun K => X (ix2 R K) * W (ix2 K j)

theorem no_axes (i k : S_.Idx) : i = k := funext fun a => a.elim0

theorem refStep_at (i : S_.Idx) : refStep X W i = Ideal.div (peak X W) (Ideal.ofBits .f32 0x42FE0000#32) := by
  have e : Host.reduce FloatOps.maximumf (Host.absf (refAct X W)) (constant S_ .f32 0xFF800000#32) reducesTo_S4096x8192_S_d0_1 h_S_ i
      = peak X W := by
    rw [Host.reduce_eq_fold]
    refine (fold_max_univ _ (fun k => Finset.mem_filter.mpr ⟨Finset.mem_univ k, no_axes _ _⟩) _ bits_bot _).trans ?_
    unfold peak
    congr 1
    funext q
    obtain ⟨R, j, rfl⟩ : ∃ R j, q = ix2 R j := ⟨_, _, eq_ix2 q⟩
    refine Eq.trans ?_ (act_abs X W R j)
    show max (refAct X W (ix2 R j)) (-refAct X W (ix2 R j)) = _
    rw [refAct_at]
  unfold refStep
  exact congrArg (fun p => Ideal.div p (Ideal.ofBits .f32 0x42FE0000#32)) e

/-- Entry `(R, j)` of the reference's result. -/
theorem refOut_at (R : Fin 4096) (j : Fin 8192) : refOut X W (ix2 R j) = quant (peak X W) (act X W R j) := by
  have s := fun i => refStep_at X W i
  have a := refAct_at X W R j
  unfold refOut quant
  simp only [mulf, minimumf, maximumf, broadcastInDim, Host.roundeven, Host.divf, s, a]
  rfl

end Cert.AllPairs

end
-- ==== Proof.lean ====
/-
# The claims

The run of the sixteen devices is proved once, over any float values (`run_main`): at the bits it is the frame of the
kernel, at the reals that of its idealization. The reference runs on the host alone.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Greatest
public import proofs.«01_k».proof.Proof.Reference

@[expose] public section

noncomputable section

namespace Cert.Proof

open Idealize.ShloMosaic Idealize.ShloMosaic.TcCoe Idealize.SL.Sem

/-- From any memory with zero counters, over any float values: the kernel runs, its arguments end unchanged and every
    counter ends at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.AllPairs.final_x m c), (h.1 c (1 : Fin 3)).trans (Cert.AllPairs.final_w m c)⟩, h.2⟩)
    (Cert.AllPairs.run_main (F := F) m ρ)

theorem frame_ideal : Cert.quiescent_KernelIdeal := fun m ρ _ => frame (F := Ideal) m ρ

set_option smartUnfolding false in
/-- The kernel is the same program text as its idealization. -/
theorem frame_kernel : Cert.quiescent_Kernel := fun m ρ _ => frame (F := Bits) m ρ

/-- The reference has no semaphore at all. -/
theorem frame_reference : Cert.quiescent_ReferenceIdeal := fun m ρ _ =>
  (θ_run Cert.ReferenceIdeal.defs _ _).mono
    (fun _ h => ⟨fun c => (h c).2, funext fun g => match g with
      | (_, .reg q) => q.elim0
      | (_, .dma q) => q.elim0⟩)
    (Cert.ReferenceIdeal.Value.run (F := Ideal) m ρ)

/-- Device `c`'s result is block `c` of the rows of the reference's result. -/
theorem out_block {m} {X W} (H : Cert.AllPairs.Given m X W) (c : Dev Cert.KernelIdeal.nD) :
    Cert.AllPairs.outAt m c = Layout.block ⟨2, ![256, 8192]⟩ ⟨2, ![4096, 8192]⟩ 0 16 c (Cert.AllPairs.refOut X W) := by
  funext i
  obtain ⟨r, j, rfl⟩ : ∃ (r : Fin 256) (j : Fin 8192), i = ValueIdx.ix2 r j := ⟨_, _, ValueIdx.eq_ix2 i⟩
  refine (Cert.AllPairs.outAt_at H c r j).trans ((Cert.AllPairs.refOut_at X W (Cert.AllPairs.inBlock c r) j).symm.trans ?_)
  refine congrArg (Cert.AllPairs.refOut X W) ?_
  funext a
  apply Fin.ext
  match a with
  | 0 => show 256 * c.val + r.val = c.val * 256 + r.val; omega
  | 1 => rfl

/-- Over the reals the kernel computes what the reference computes: no condition on the arguments is needed. -/
theorem algebraic : Cert.algebraic_KernelIdeal_ReferenceIdeal := fun m ρ m' ρ' _ h =>
  ⟨_, (θ_run Cert.KernelIdeal.defs _ _).mono
      (fun _ hr c => ⟨((hr.1 c (2 : Fin 3)).trans (Cert.AllPairs.final_out m c)).trans (out_block ⟨fun c => (h c).1, fun c => (h c).2⟩ c),
        (hr.1 c (0 : Fin 3)).trans (Cert.AllPairs.final_x m c), (hr.1 c (1 : Fin 3)).trans (Cert.AllPairs.final_w m c)⟩)
      (Cert.AllPairs.run_main (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts, frame_kernel, frame_ideal, frame_reference, trivial, algebraic⟩

end Cert.Proof

end
